-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebooks_finite [hPre_codebooks_finite : Cert.Pre_codebooks_finite.Facts] (m : (ℓ : Loc Cert.KernelIdeal.nD Cert.KernelIdeal.τ Cert.KernelIdeal.sig) → Buf (Elt Ideal) ℓ) : Prop :=
  ∀ c : Dev Cert.KernelIdeal.nD,
    (Cert.Pre_codebooks_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebooks_finite [hPre_codebooks_finite : Cert.Pre_codebooks_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebooks_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_codebooks_finite [hKernelIdeal : Cert.KernelIdeal.Facts] [hPre_codebooks_finite : Cert.Pre_codebooks_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebooks_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_codebooks_finite [hReferenceIdeal : Cert.ReferenceIdeal.Facts] [hPre_codebooks_finite : Cert.Pre_codebooks_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebooks_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_codebooks_finite [hKernelIdeal : Cert.KernelIdeal.Facts] [hReferenceIdeal : Cert.ReferenceIdeal.Facts] [hPre_codebooks_finite : Cert.Pre_codebooks_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebooks_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4_4) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_codebooks_finite : Cert.Pre_codebooks_finite.Facts),
    quiescent_Kernel (hKernel := hKernel)
    ∧ quiescent_KernelIdeal (hKernelIdeal := hKernelIdeal)
    ∧ quiescent_KernelIdeal_pre_codebooks_finite (hKernelIdeal := hKernelIdeal) (hPre_codebooks_finite := hPre_codebooks_finite)
    ∧ quiescent_ReferenceIdeal (hReferenceIdeal := hReferenceIdeal)
    ∧ quiescent_ReferenceIdeal_pre_codebooks_finite (hReferenceIdeal := hReferenceIdeal) (hPre_codebooks_finite := hPre_codebooks_finite)
    ∧ preserves_Kernel_KernelIdeal
    ∧ algebraic_KernelIdeal_ReferenceIdeal_pre_codebooks_finite (hKernelIdeal := hKernelIdeal) (hReferenceIdeal := hReferenceIdeal) (hPre_codebooks_finite := hPre_codebooks_finite)
-- ==== Pre_codebooks_finite.lean ====
abbrev S16x256x2048 : Shape := ⟨3, ![16, 256, 2048]⟩
abbrev S8x1024x256 : Shape := ⟨3, ![8, 1024, 256]⟩
abbrev S_ : Shape := ⟨0, ![]⟩

class Facts : Prop where
  bcast_S_S8x1024x256 : S_.BroadcastsInDim S8x1024x256 (![] : Fin 0 → Fin S8x1024x256.rank)

variable [Facts]

def fn {F : FTy → Type} [FloatOps F] (main_arg0 : FVec F S16x256x2048 .f32) (main_arg1 : FVec F S8x1024x256 .f32) (main_arg2 : IVec S_ 32) : IVec S8x1024x256 1 :=
  let main_v0 : FVec F S8x1024x256 .f32 := Host.absf main_arg1
  let main_cst : FVec F S_ .f32 := constant S_ .f32 0x7F800000#32
  let main_v1 : FVec F S8x1024x256 .f32 := broadcastInDim S8x1024x256 ![] bcast_S_S8x1024x256 main_cst
  let main_v2 : IVec S8x1024x256 1 := cmpf .olt main_v0 main_v1
  main_v2
-- ==== Kernel.lean ====
abbrev S16x256x2048 : Shape := ⟨3, ![16, 256, 2048]⟩
abbrev S8x1024x256 : Shape := ⟨3, ![8, 1024, 256]⟩
abbrev S_ : Shape := ⟨0, ![]⟩
abbrev S8x256x1024 : Shape := ⟨3, ![8, 256, 1024]⟩
abbrev S8x1024 : Shape := ⟨2, ![8, 1024]⟩
abbrev S8x1024x1 : Shape := ⟨3, ![8, 1024, 1]⟩
abbrev S16x8x2048 : Shape := ⟨3, ![16, 8, 2048]⟩
abbrev S256x8 : Shape := ⟨2, ![256, 8]⟩
abbrev S8x16x2048 : Shape := ⟨3, ![8, 16, 2048]⟩
abbrev S8 : Shape := ⟨1, ![8]⟩
abbrev S1x256x512 : Shape := ⟨3, ![1, 256, 512]⟩
abbrev S1x8x512 : Shape := ⟨3, ![1, 8, 512]⟩
abbrev S256x512 : Shape := ⟨2, ![256, 512]⟩
abbrev S1024x512 : Shape := ⟨2, ![1024, 512]⟩
abbrev S1x1024x256 : Shape := ⟨3, ![1, 1024, 256]⟩
abbrev S1024x256 : Shape := ⟨2, ![1024, 256]⟩
abbrev S512 : Shape := ⟨1, ![512]⟩
abbrev S1x512 : Shape := ⟨2, ![1, 512]⟩
abbrev S1x1024x1 : Shape := ⟨3, ![1, 1024, 1]⟩
abbrev S1024x1 : Shape := ⟨2, ![1024, 1]⟩
abbrev S1x1x512 : Shape := ⟨3, ![1, 1, 512]⟩
abbrev S1x256x1024 : Shape := ⟨3, ![1, 256, 1024]⟩
abbrev S256x1024 : Shape := ⟨2, ![256, 1024]⟩
abbrev S256x1 : Shape := ⟨2, ![256, 1]⟩
abbrev S256 : Shape := ⟨1, ![256]⟩

abbrev nBuf : Space → Nat
  | .hbm => 39
  | .vmem => 12
  | .smem => 0
  | _ => 0

abbrev bufTy : (tb : Table) → Fin (tcTables nBuf tb) → BufTy
  | .hbm, ⟨0, _⟩ => ⟨S16x256x2048, .f32⟩
  | .hbm, ⟨1, _⟩ => ⟨S8x1024x256, .f32⟩
  | .hbm, ⟨2, _⟩ => ⟨S_, .i32⟩
  | .hbm, ⟨3, _⟩ => ⟨S8x256x1024, .f32⟩
  | .hbm, ⟨4, _⟩ => ⟨S8x256x1024, .bf16⟩
  | .hbm, ⟨5, _⟩ => ⟨S8x256x1024, .f32⟩
  | .hbm, ⟨6, _⟩ => ⟨S8x256x1024, .f32⟩
  | .hbm, ⟨7, _⟩ => ⟨S8x256x1024, .bf16⟩
  | .hbm, ⟨8, _⟩ => ⟨S8x256x1024, .f32⟩
  | .hbm, ⟨9, _⟩ => ⟨S8x256x1024, .f32⟩
  | .hbm, ⟨10, _⟩ => ⟨S8x256x1024, .bf16⟩
  | .hbm, ⟨11, _⟩ => ⟨S8x256x1024, .bf16⟩
  | .hbm, ⟨12, _⟩ => ⟨S8x256x1024, .bf16⟩
  | .hbm, ⟨13, _⟩ => ⟨S8x1024x256, .f32⟩
  | .hbm, ⟨14, _⟩ => ⟨S_, .f32⟩
  | .hbm, ⟨15, _⟩ => ⟨S8x1024, .f32⟩
  | .hbm, ⟨16, _⟩ => ⟨S8x1024x1, .f32⟩
  | .hbm, ⟨17, _⟩ => ⟨S16x256x2048, .f32⟩
  | .hbm, ⟨18, _⟩ => ⟨S16x8x2048, .i32⟩
  | .hbm, ⟨19, _⟩ => ⟨S256x8, .f32⟩
  | .hbm, ⟨20, _⟩ => ⟨S8x16x2048, .i32⟩
  | .hbm, ⟨21, _⟩ => ⟨S_, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1x256x512, .f32⟩
  | .local _ .vmem, ⟨1, _⟩ => ⟨S1x256x512, .f32⟩
  | .local _ .vmem, ⟨2, _⟩ => ⟨S8x1024x256, .f32⟩
  | .local _ .vmem, ⟨3, _⟩ => ⟨S8x256x1024, .bf16⟩
  | .local _ .vmem, ⟨4, _⟩ => ⟨S8x256x1024, .bf16⟩
  | .local _ .vmem, ⟨5, _⟩ => ⟨S8x256x1024, .bf16⟩
  | .local _ .vmem, ⟨6, _⟩ => ⟨S8x1024x1, .f32⟩
  | .local _ .vmem, ⟨7, _⟩ => ⟨S1x256x512, .f32⟩
  | .local _ .vmem, ⟨8, _⟩ => ⟨S1x256x512, .f32⟩
  | .local _ .vmem, ⟨9, _⟩ => ⟨S1x8x512, .i32⟩
  | .local _ .vmem, ⟨10, _⟩ => ⟨S1x8x512, .i32⟩
  | .local _ .vmem, ⟨11, _⟩ => ⟨S256x8, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_cst : Ref sig .tc := ⟨.hbm, 14, rfl⟩
abbrev main_call0_v11 : Ref sig .tc := ⟨.hbm, 15, rfl⟩
abbrev main_call0_v12 : Ref sig .tc := ⟨.hbm, 16, rfl⟩
abbrev main_v0_0 : Ref sig .tc := ⟨.hbm, 17, rfl⟩
abbrev main_call0_v13_1 : Ref sig .tc := ⟨.hbm, 18, rfl⟩
abbrev main_call0_v13_2 : Ref sig .tc := ⟨.hbm, 19, rfl⟩
abbrev main_v0_1 : Ref sig .tc := ⟨.hbm, 20, rfl⟩
abbrev main_call0_cst_0 : Ref sig .tc := ⟨.hbm, 21, rfl⟩
abbrev main_call0_v15 : Ref sig .tc := ⟨.hbm, 22, rfl⟩
abbrev main_call0_cst_1 : Ref sig .tc := ⟨.hbm, 23, rfl⟩
abbrev main_call0_v16 : Ref sig .tc := ⟨.hbm, 24, rfl⟩
abbrev main_call0_v17 : Ref sig .tc := ⟨.hbm, 25, rfl⟩
abbrev main_call0_cst_2 : Ref sig .tc := ⟨.hbm, 26, rfl⟩
abbrev main_call0_v18 : Ref sig .tc := ⟨.hbm, 27, rfl⟩
abbrev main_call0_v19 : Ref sig .tc := ⟨.hbm, 28, rfl⟩
abbrev main_call0_cst_3 : Ref sig .tc := ⟨.hbm, 29, rfl⟩
abbrev main_call0_v20 : Ref sig .tc := ⟨.hbm, 30, rfl⟩
abbrev main_call0_cst_4 : Ref sig .tc := ⟨.hbm, 31, rfl⟩
abbrev main_v0_3 : Ref sig .tc := ⟨.hbm, 32, rfl⟩
abbrev main_call0_v22 : Ref sig .tc := ⟨.hbm, 33, rfl⟩
abbrev main_call0_cst_5 : Ref sig .tc := ⟨.hbm, 34, rfl⟩
abbrev main_call0_v23 : Ref sig .tc := ⟨.hbm, 35, rfl⟩
abbrev main_call0_cst_6 : Ref sig .tc := ⟨.hbm, 36, rfl⟩
abbrev main_call0_v24 : Ref sig .tc := ⟨.hbm, 37, rfl⟩
abbrev main_v0_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S256x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S16x256x2048 : Shape := ⟨3, ![16, 256, 2048]⟩
abbrev S8x1024x256 : Shape := ⟨3, ![8, 1024, 256]⟩
abbrev S_ : Shape := ⟨0, ![]⟩
abbrev S16x2048x256 : Shape := ⟨3, ![16, 2048, 256]⟩
abbrev S8x16x2048 : Shape := ⟨3, ![8, 16, 2048]⟩
abbrev S8 : Shape := ⟨1, ![8]⟩
abbrev S1x1024x256 : Shape := ⟨3, ![1, 1024, 256]⟩
abbrev S1024x256 : Shape := ⟨2, ![1024, 256]⟩
abbrev S16x2048 : Shape := ⟨2, ![16, 2048]⟩
abbrev S16x2048x1 : Shape := ⟨3, ![16, 2048, 1]⟩
abbrev S1024 : Shape := ⟨1, ![1024]⟩
abbrev S256x1024 : Shape := ⟨2, ![256, 1024]⟩
abbrev S16x2048x1024 : Shape := ⟨3, ![16, 2048, 1024]⟩
abbrev S1x1x1024 : Shape := ⟨3, ![1, 1, 1024]⟩
abbrev S1 : Shape := ⟨1, ![1]⟩
abbrev S1x1x1 : Shape := ⟨3, ![1, 1, 1]⟩
abbrev S1x16x2048 : Shape := ⟨3, ![1, 16, 2048]⟩

abbrev nBuf : Space → Nat
  | .hbm => 108
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S8x1024x256, .f32⟩
  | .hbm, ⟨2, _⟩ => ⟨S_, .i32⟩
  | .hbm, ⟨3, _⟩ => ⟨S16x2048x256, .f32⟩
  | .hbm, ⟨4, _⟩ => ⟨S_, .f32⟩
  | .hbm, ⟨5, _⟩ => ⟨S16x2048x256, .f32⟩
  | .hbm, ⟨6, _⟩ => ⟨S_, .i32⟩
  | .hbm, ⟨7, _⟩ => ⟨S8x16x2048, .i32⟩
  | .hbm, ⟨8, _⟩ => ⟨S_, .f32⟩
  | .hbm, ⟨9, _⟩ => ⟨S8, .f32⟩
  | .hbm, ⟨10, _⟩ => ⟨S_, .i32⟩
  | .hbm, ⟨11, _⟩ => ⟨S8x1024x256, .f32⟩
  | .hbm, ⟨12, _⟩ => ⟨S_, .i32⟩
  | .hbm, ⟨13, _⟩ => ⟨S16x2048x256, .f32⟩
  | .hbm, ⟨14, _⟩ => ⟨S16x2048x256, .f32⟩
  | .hbm, ⟨15, _⟩ => ⟨S8x16x2048, .i32⟩
  | .hbm, ⟨16, _⟩ => ⟨S8, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S1x1024x256, .f32⟩
  | .hbm, ⟨22, _⟩ => ⟨S1024x256, .f32⟩
  | .hbm, ⟨23, _⟩ => ⟨S16x2048x256, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S1024x256, .f32⟩
  | .hbm, ⟨28, _⟩ => ⟨S_, .f32⟩
  | .hbm, ⟨29, _⟩ => ⟨S1024, .f32⟩
  | .hbm, ⟨30, _⟩ => ⟨S256x1024, .f32⟩
  | .hbm, ⟨31, _⟩ => ⟨S16x2048x1024, .f32⟩
  | .hbm, ⟨32, _⟩ => ⟨S_, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S16x2048x1024, .i32⟩
  | .hbm, ⟨41, _⟩ => ⟨S_, .f32⟩
  | .hbm, ⟨42, _⟩ => ⟨S_, .i32⟩
  | .hbm, ⟨43, _⟩ => ⟨S16x2048, .f32⟩
  | .hbm, ⟨44, _⟩ => ⟨S16x2048, .i32⟩
  | .hbm, ⟨45, _⟩ => ⟨S_, .i32⟩
  | .hbm, ⟨46, _⟩ => ⟨S16x2048, .i32⟩
  | .hbm, ⟨47, _⟩ => ⟨S16x2048, .i1⟩
  | .hbm, ⟨48, _⟩ => ⟨S_, .i32⟩
  | .hbm, ⟨49, _⟩ => ⟨S16x2048, .i32⟩
  | .hbm, ⟨50, _⟩ => ⟨S16x2048, .i32⟩
  | .hbm, ⟨51, _⟩ => ⟨S16x2048, .i32⟩
  | .hbm, ⟨52, _⟩ => ⟨S16x2048x1, .i32⟩
  | .hbm, ⟨53, _⟩ => ⟨S1, .i32⟩
  | .hbm, ⟨54, _⟩ => ⟨S_, .i32⟩
  | .hbm, ⟨55, _⟩ => ⟨S16x2048x1, .i32⟩
  | .hbm, ⟨56, _⟩ => ⟨S16x2048x1, .i1⟩
  | .hbm, ⟨57, _⟩ => ⟨S1x1x1, .i32⟩
  | .hbm, ⟨58, _⟩ => ⟨S16x2048x1, .i32⟩
  | .hbm, ⟨59, _⟩ => ⟨S16x2048x1, .i1⟩
  | .hbm, ⟨60, _⟩ => ⟨S16x2048x1, .i1⟩
  | .hbm, ⟨61, _⟩ => ⟨S_, .i1⟩
  | .hbm, ⟨62, _⟩ => ⟨S16x2048, .i1⟩
  | .hbm, ⟨63, _⟩ => ⟨S16x2048x256, .f32⟩
  | .hbm, ⟨64, _⟩ => ⟨S16x2048x256, .i1⟩
  | .hbm, ⟨65, _⟩ => ⟨S_, .f32⟩
  | .hbm, ⟨66, _⟩ => ⟨S16x2048x256, .f32⟩
  | .hbm, ⟨67, _⟩ => ⟨S16x2048x256, .f32⟩
  | .hbm, ⟨68, _⟩ => ⟨S16x2048x256, .f32⟩
  | .hbm, ⟨69, _⟩ => ⟨S16x2048x256, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S16x2048x256, .f32⟩
  | .hbm, ⟨77, _⟩ => ⟨S16x2048x256, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S16x2048x256, .f32⟩
  | .hbm, ⟨85, _⟩ => ⟨S16x2048x256, .f32⟩
  | .hbm, ⟨86, _⟩ => ⟨S16x2048x256, .f32⟩
  | .hbm, ⟨87, _⟩ => ⟨S16x2048x256, .f32⟩
  | .hbm, ⟨88, _⟩ => ⟨S_, .f32⟩
  | .hbm, ⟨89, _⟩ => ⟨S1x16x2048, .i32⟩
  | .hbm, ⟨90, _⟩ => ⟨S_, .i32⟩
  | .hbm, ⟨91, _⟩ => ⟨S_, .i32⟩
  | .hbm, ⟨92, _⟩ => ⟨S8x16x2048, .i32⟩
  | .hbm, ⟨93, _⟩ => ⟨S1, .f32⟩
  | .hbm, ⟨94, _⟩ => ⟨S8, .f32⟩
  | .hbm, ⟨95, _⟩ => ⟨S_, .i32⟩
  | .hbm, ⟨96, _⟩ => ⟨S_, .i32⟩
  | .hbm, ⟨97, _⟩ => ⟨S16x256x2048, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_c_1 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_while0c_c_11 : Ref sig .tc := ⟨.hbm, 17, rfl⟩
abbrev main_while0c_v12 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_call0_v0 : Ref sig .tc := ⟨.hbm, 21, rfl⟩
abbrev main_while0b_v12 : Ref sig .tc := ⟨.hbm, 22, rfl⟩
abbrev main_while0b_v13 : Ref sig .tc := ⟨.hbm, 23, rfl⟩
abbrev main_while0b_cst_11 : Ref sig .tc := ⟨.hbm, 24, rfl⟩
abbrev main_while0b_v14 : Ref sig .tc := ⟨.hbm, 25, rfl⟩
abbrev main_while0b_v15 : Ref sig .tc := ⟨.hbm, 26, rfl⟩
abbrev main_while0b_v16 : Ref sig .tc := ⟨.hbm, 27, rfl⟩
abbrev main_while0b_cst_12 : Ref sig .tc := ⟨.hbm, 28, rfl⟩
abbrev main_while0b_v17 : Ref sig .tc := ⟨.hbm, 29, rfl⟩
abbrev main_while0b_v18 : Ref sig .tc := ⟨.hbm, 30, rfl⟩
abbrev main_while0b_v19 : Ref sig .tc := ⟨.hbm, 31, rfl⟩
abbrev main_while0b_cst_13 : Ref sig .tc := ⟨.hbm, 32, rfl⟩
abbrev main_while0b_v20 : Ref sig .tc := ⟨.hbm, 33, rfl⟩
abbrev main_while0b_v21 : Ref sig .tc := ⟨.hbm, 34, rfl⟩
abbrev main_while0b_v22 : Ref sig .tc := ⟨.hbm, 35, rfl⟩
abbrev main_while0b_v23 : Ref sig .tc := ⟨.hbm, 36, rfl⟩
abbrev main_while0b_v24 : Ref sig .tc := ⟨.hbm, 37, rfl⟩
abbrev main_while0b_v25 : Ref sig .tc := ⟨.hbm, 38, rfl⟩
abbrev main_while0b_v26 : Ref sig .tc := ⟨.hbm, 39, rfl⟩
abbrev main_while0b_call1_v0 : Ref sig .tc := ⟨.hbm, 40, rfl⟩
abbrev main_while0b_call1_cst : Ref sig .tc := ⟨.hbm, 41, rfl⟩
abbrev main_while0b_call1_c : Ref sig .tc := ⟨.hbm, 42, rfl⟩
abbrev main_while0b_call1_v1_0 : Ref sig .tc := ⟨.hbm, 43, rfl⟩
abbrev main_while0b_v27 : Ref sig .tc := ⟨.hbm, 44, rfl⟩
abbrev main_while0b_call2_c : Ref sig .tc := ⟨.hbm, 45, rfl⟩
abbrev main_while0b_call2_v0 : Ref sig .tc := ⟨.hbm, 46, rfl⟩
abbrev main_while0b_call2_v1 : Ref sig .tc := ⟨.hbm, 47, rfl⟩
abbrev main_while0b_call2_c_0 : Ref sig .tc := ⟨.hbm, 48, rfl⟩
abbrev main_while0b_call2_v2 : Ref sig .tc := ⟨.hbm, 49, rfl⟩
abbrev main_while0b_call2_v3 : Ref sig .tc := ⟨.hbm, 50, rfl⟩
abbrev main_while0b_call2_v4 : Ref sig .tc := ⟨.hbm, 51, rfl⟩
abbrev main_while0b_call2_v5 : Ref sig .tc := ⟨.hbm, 52, rfl⟩
abbrev main_while0b_call2_c_1 : Ref sig .tc := ⟨.hbm, 53, rfl⟩
abbrev main_while0b_call2_c_2 : Ref sig .tc := ⟨.hbm, 54, rfl⟩
abbrev main_while0b_call2_v6 : Ref sig .tc := ⟨.hbm, 55, rfl⟩
abbrev main_while0b_call2_v7 : Ref sig .tc := ⟨.hbm, 56, rfl⟩
abbrev main_while0b_call2_v8 : Ref sig .tc := ⟨.hbm, 57, rfl⟩
abbrev main_while0b_call2_v9 : Ref sig .tc := ⟨.hbm, 58, rfl⟩
abbrev main_while0b_call2_v10 : Ref sig .tc := ⟨.hbm, 59, rfl⟩
abbrev main_while0b_call2_v11 : Ref sig .tc := ⟨.hbm, 60, rfl⟩
abbrev main_while0b_call2_c_3 : Ref sig .tc := ⟨.hbm, 61, rfl⟩
abbrev main_while0b_call2_v12 : Ref sig .tc := ⟨.hbm, 62, rfl⟩
abbrev main_while0b_call2_v13 : Ref sig .tc := ⟨.hbm, 63, rfl⟩
abbrev main_while0b_call2_v14 : Ref sig .tc := ⟨.hbm, 64, rfl⟩
abbrev main_while0b_call2_cst : Ref sig .tc := ⟨.hbm, 65, rfl⟩
abbrev main_while0b_call2_v15 : Ref sig .tc := ⟨.hbm, 66, rfl⟩
abbrev main_while0b_v28 : Ref sig .tc := ⟨.hbm, 67, rfl⟩
abbrev main_while0b_v29 : Ref sig .tc := ⟨.hbm, 68, rfl⟩
abbrev main_while0b_v30 : Ref sig .tc := ⟨.hbm, 69, rfl⟩
abbrev main_while0b_cst_14 : Ref sig .tc := ⟨.hbm, 70, rfl⟩
abbrev main_while0b_v31 : Ref sig .tc := ⟨.hbm, 71, rfl⟩
abbrev main_while0b_cst_15 : Ref sig .tc := ⟨.hbm, 72, rfl⟩
abbrev main_while0b_v32 : Ref sig .tc := ⟨.hbm, 73, rfl⟩
abbrev main_while0b_cst_16 : Ref sig .tc := ⟨.hbm, 74, rfl⟩
abbrev main_while0b_v33 : Ref sig .tc := ⟨.hbm, 75, rfl⟩
abbrev main_while0b_v34 : Ref sig .tc := ⟨.hbm, 76, rfl⟩
abbrev main_while0b_v35 : Ref sig .tc := ⟨.hbm, 77, rfl⟩
abbrev main_while0b_cst_17 : Ref sig .tc := ⟨.hbm, 78, rfl⟩
abbrev main_while0b_v36 : Ref sig .tc := ⟨.hbm, 79, rfl⟩
abbrev main_while0b_cst_18 : Ref sig .tc := ⟨.hbm, 80, rfl⟩
abbrev main_while0b_v37 : Ref sig .tc := ⟨.hbm, 81, rfl⟩
abbrev main_while0b_cst_19 : Ref sig .tc := ⟨.hbm, 82, rfl⟩
abbrev main_while0b_v38 : Ref sig .tc := ⟨.hbm, 83, rfl⟩
abbrev main_while0b_v39 : Ref sig .tc := ⟨.hbm, 84, rfl⟩
abbrev main_while0b_v40 : Ref sig .tc := ⟨.hbm, 85, rfl⟩
abbrev main_while0b_v41 : Ref sig .tc := ⟨.hbm, 86, rfl⟩
abbrev main_while0b_v42 : Ref sig .tc := ⟨.hbm, 87, rfl⟩
abbrev main_while0b_v43 : Ref sig .tc := ⟨.hbm, 88, rfl⟩
abbrev main_while0b_call3_v0 : Ref sig .tc := ⟨.hbm, 89, rfl⟩
abbrev main_while0b_call3_c : Ref sig .tc := ⟨.hbm, 90, rfl⟩
abbrev main_while0b_call3_c_0 : Ref sig .tc := ⟨.hbm, 91, rfl⟩
abbrev main_while0b_v44 : Ref sig .tc := ⟨.hbm, 92, rfl⟩
abbrev main_while0b_call4_v0 : Ref sig .tc := ⟨.hbm, 93, rfl⟩
abbrev main_while0b_v45 : Ref sig .tc := ⟨.hbm, 94, rfl⟩
abbrev main_while0b_c_20 : Ref sig .tc := ⟨.hbm, 95, rfl⟩
abbrev main_while0b_v46 : Ref sig .tc := ⟨.hbm, 96, rfl⟩
abbrev main_v5 : Ref sig .tc := ⟨.hbm, 97, rfl⟩
abbrev main_v6 : Ref sig .tc := ⟨.hbm, 98, rfl⟩
abbrev main_cst_2 : Ref sig .tc := ⟨.hbm, 99, rfl⟩
abbrev main_v7 : Ref sig .tc := ⟨.hbm, 100, rfl⟩
abbrev main_cst_3 : Ref sig .tc := ⟨.hbm, 101, rfl⟩
abbrev main_v8 : Ref sig .tc := ⟨.hbm, 102, rfl⟩
abbrev main_v9 : Ref sig .tc := ⟨.hbm, 103, rfl⟩
abbrev main_cst_4 : Ref sig .tc := ⟨.hbm, 104, rfl⟩
abbrev main_v10 : Ref sig .tc := ⟨.hbm, 105, rfl⟩
abbrev main_cst_5 : Ref sig .tc := ⟨.hbm, 106, rfl⟩
abbrev main_v11 : Ref sig .tc := ⟨.hbm, 107, rfl⟩

abbrev nD : Nat := 1
abbrev τ : Topo := Topo.v7x

variable {F : FTy → Type} [FloatOps F]

abbrev main_while0_count : Scf.Loop 32 := ⟨0#32, 8#32, 1#32⟩
-- ==== Proof.RefRun.lean ====
/-
  The reference's run, one loop trip at a time: what each stretch of host operations leaves in the buffers that the next
  one reads, as functions of what it was given; which buffers a whole trip leaves alone; and the reference's frame.
-/
module

public import proofs.«01_k».proof.Proof.Gen.ReferenceIdeal.Run
public import Idealize.ShloMosaic.Lib.Quiescent

@[expose] public section

noncomputable section

namespace Cert.Rvq.Ref

open Idealize.ShloMosaic Idealize.ShloMosaic.TcCoe Idealize.ShloMosaic.StableHlo
open Idealize.SL Idealize.SL.Sem
open Cert.ReferenceIdeal Cert.ReferenceIdeal.Gen Cert.ReferenceIdeal.Value

variable {F : FTy → Type} [FloatOps F]

/-- The buffers written by one trip of the loop: its test's operations and each stretch of its body. -/
abbrev tripWrites : List (List (Ref sig .tc)) :=
  [condOps_W, while0Ops0_W, while0Ops0_1_W, while0Ops0_2_W, while0Ops0_3_W, while0Ops0_4_W, while0Ops0_5_W, while0Ops0_6_W, while0Ops0_7_W]

/-- A buffer that no operation of a trip writes keeps its contents over the trip. -/
theorem trip_keeps (V : Valuation τ sig (Elt F)) {r : Ref sig .tc} (h : ∀ W ∈ tripWrites, r ∉ W) :
    afterL bodyI (after condOps V) (Proc.devRef .tc r) = V (Proc.devRef .tc r) := by
  simp only [tripWrites, List.forall_mem_cons] at h
  obtain ⟨hc, h0, h1, h2, h3, h4, h5, h6, h7, -⟩ := h
  simp only [afterL_cons, afterL_nil]
  rw [after_of_writes_sub _ _ while0Ops0_7_writes h7, after_of_writes_sub _ _ while0Ops0_6_writes h6,
    after_of_writes_sub _ _ while0Ops0_5_writes h5, after_of_writes_sub _ _ while0Ops0_4_writes h4,
    after_of_writes_sub _ _ while0Ops0_3_writes h3, after_of_writes_sub _ _ while0Ops0_2_writes h2,
    after_of_writes_sub _ _ while0Ops0_1_writes h1, after_of_writes_sub _ _ while0Ops0_writes h0,
    after_of_writes_sub _ _ condOps_writes hc]

variable (m : (ℓ : Loc nD τ sig) → Buf (Elt F) ℓ) (ρ : Dev nD → PrngReg)

/-- So a buffer that no operation of a trip writes holds before every trip what it held on entry to the loop. -/
theorem atK_keeps (c : Dev nD) {r : Ref sig .tc} (h : ∀ W ∈ tripWrites, r ∉ W) :
    ∀ k, atK m k c (Proc.devRef .tc r) = entryContents preI m c (Proc.devRef .tc r)
  | 0 => rfl
  | k + 1 => (trip_keeps (atK m k c) h).trans (atK_keeps c h k)

/-- A buffer the program never writes ends as it began. -/
theorem final_keeps (c : Dev nD) {r : Ref sig .tc} (h : ∀ W ∈ tripWrites, r ∉ W) (h0 : r ∉ hostOps0_W) (h1 : r ∉ hostOps0_1_W) :
    finalContents condOps preI bodyI postI 8 m c (Proc.devRef .tc r) = m ((c.tc : Thread nD τ).loc r) := by
  have hc : r ∉ condOps_W := h _ (by simp [tripWrites])
  show afterL postI (after condOps (atK m 8 c)) (Proc.devRef .tc r) = _
  simp only [afterL_cons, afterL_nil]
  rw [after_of_writes_sub _ _ hostOps0_1_writes h1, after_of_writes_sub _ _ condOps_writes hc, atK_keeps m c h 8]
  simp only [entryContents, afterL_cons, afterL_nil]
  exact after_of_writes_sub _ _ hostOps0_writes h0

theorem final_arg0 (c : Dev nD) : finalContents condOps preI bodyI postI 8 m c (Proc.devRef .tc main_arg0) = m ((c.tc : Thread nD τ).loc main_arg0) :=
  final_keeps m c (by decide +kernel) (by decide +kernel) (by decide +kernel)
theorem final_arg1 (c : Dev nD) : finalContents condOps preI bodyI postI 8 m c (Proc.devRef .tc main_arg1) = m ((c.tc : Thread nD τ).loc main_arg1) :=
  final_keeps m c (by decide +kernel) (by decide +kernel) (by decide +kernel)
theorem final_arg2 (c : Dev nD) : finalContents condOps preI bodyI postI 8 m c (Proc.devRef .tc main_arg2) = m ((c.tc : Thread nD τ).loc main_arg2) :=
  final_keeps m c (by decide +kernel) (by decide +kernel) (by decide +kernel)

/-- The reference runs to its end, leaves its arguments as they were, and no semaphore is left raised. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) _ _).mono
    (fun r h => ⟨fun c => ⟨(h c main_arg0 rfl).trans (final_arg0 m c), (h c main_arg1 rfl).trans (final_arg1 m c),
      (h c main_arg2 rfl).trans (final_arg2 m c)⟩, sem_eq_zero_of_no_sems (by decide) r.2⟩)
    (run_fold m ρ)

end Cert.Rvq.Ref

end
-- ==== Proof.KStep.lean ====
/- ONE QUANTIZER OF THE KERNEL, AS FUNCTIONS OF VECTORS. The kernel's body runs eight quantizers one after the other on a
   block of 512 columns. Here is one of them — the distances, the codes, the differences, the next residual, the sums of
   squares — written once over the residual and the quantizer's slabs, and the chain of the eight. -/
module

public import proofs.«01_k».proof.Proof.Gen.KernelIdeal.Skeleton
public import Idealize.ShloMosaic.Lib.ValueIdxCoords

@[expose] public section

noncomputable section

namespace Cert.Rvq.K

open Cert.KernelIdeal Cert.KernelIdeal.Gen
open Idealize.ShloMosaic Idealize.ShloMosaic.TcCoe

variable {F : FTy → Type} [FloatOps F]

/-- What one quantizer reads: its codebook, the codebook's squared lengths, and the three parts of its transpose. -/
structure Slab (F : FTy → Type) where
  cb : Vec F S1x1024x256 .f32
  c2 : Vec F S1x1024x1 .f32
  hi : Vec F S1x256x1024 .bf16
  mid : Vec F S1x256x1024 .bf16
  lo : Vec F S1x256x1024 .bf16

/-- The distances of the columns of `r` to the rows of the codebook. -/
def kDist (r : FVec F S256x512 .f32) (s : Slab F) : FVec F S1024x512 .f32 :=
  addf (subf (broadcastTo S1024x512 (shapeCast S1x512 (multiReduction .add [0] S512 (mulf r r) 0x00000000#32 reduces_S256x512_S512 (.inl rfl) rfl) shapeCasts_S512_S1x512) broadcasts_S1x512_S1024x512)
      (mulf (broadcast S1024x512 (Scalar.ofBits .f32 0x40000000#32))
        (matmul dot_S1024x256_S256x512_S1024x512_1_0_0_1_n_n none (shapeCast S1024x256 s.cb shapeCasts_S1x1024x256_S1024x256) r (constant S1024x512 .f32 0x00000000#32))))
    (broadcastTo S1024x512 (shapeCast S1024x1 s.c2 shapeCasts_S1x1024x1_S1024x1) broadcasts_S1024x1_S1024x512)

/-- The row numbers `0 … 1023`, down each column. -/
def kRows : IVec S1024x512 32 := iota .tc S1024x512 32 [0] iota_S1024x512_d0_w32

/-- The codes of the columns: the least row number at which the distance is the least. -/
def kIdx (D : FVec F S1024x512 .f32) : IVec S1x512 32 :=
  shapeCast S1x512 (multiReductionI .minsi [0] S512
    (select (cmpf .oeq D (broadcastTo S1024x512 (shapeCast S1x512 (multiReduction .minimumf [0] S512 D 0x7F800000#32 reduces_S1024x512_S512 (.inl rfl) rfl) shapeCasts_S512_S1x512) broadcasts_S1x512_S1024x512))
      kRows (broadcast S1024x512 1024#32)) 2147483647#32 reduces_S1024x512_S512 rfl) shapeCasts_S512_S1x512

/-- The codes as a column of zeros and one 1 per column. -/
def kOne (i : IVec S1x512 32) : FVec F S1024x512 .bf16 :=
  truncf .bf16 (sitofp .f32 (extui 32 (cmpi .eq kRows (broadcastTo S1024x512 i broadcasts_S1x512_S1024x512)) natLt_1_32)) bitsLt_bf16_f32

/-- One part of the transposed codebook times the one-hot codes. -/
def kPart (p : Vec F S1x256x1024 .bf16) (o : FVec F S1024x512 .bf16) : FVec F S256x512 .f32 :=
  matmul dot_S256x1024_S1024x512_S256x512_1_0_0_1_n_n none (shapeCast S256x1024 p shapeCasts_S1x256x1024_S256x1024) o (constant S256x512 .f32 0x00000000#32)

/-- The chosen rows less the residual. -/
def kDiff (r : FVec F S256x512 .f32) (o : FVec F S1024x512 .bf16) (s : Slab F) : FVec F S256x512 .f32 :=
  subf (addf (addf (kPart s.hi o) (kPart s.mid o)) (kPart s.lo o)) r

/-- The next residual. -/
def kNext (r d : FVec F S256x512 .f32) : FVec F S256x512 .f32 := subf r (addf r d)

/-- A column of sums of squares, added to what was there. -/
def kSq (d : FVec F S256x512 .f32) (old : Vec F S256x1 .f32) : FVec F S256x1 .f32 :=
  addf (shapeCast S256x1 old shapeCasts_S256x1_S256x1)
    (shapeCast S256x1 (multiReduction .add [1] S256 (mulf d d) 0x00000000#32 reduces_S256x512_S256 (.inl rfl) rfl) shapeCasts_S256_S256x1)

/-- Codes as the row that is stored. -/
def kRow (i : IVec S1x512 32) : IVec S1x1x512 32 :=
  shapeCast S1x1x512 (shapeCast S512 i shapeCasts_S1x512_S512) shapeCasts_S512_S1x1x512

/-- The difference of one quantizer, from its residual. -/
def kD (r : FVec F S256x512 .f32) (s : Slab F) : FVec F S256x512 .f32 := kDiff r (kOne (kIdx (kDist r s))) s

variable (X : Vec F S1x256x512 .f32) (P : ℕ → Slab F)

/-- The residual before quantizer `k`. -/
def kR : ℕ → FVec F S256x512 .f32
  | 0 => shapeCast S256x512 X shapeCasts_S1x256x512_S256x512
  | k + 1 => kNext (kR k) (kD (kR k) (P k))

/-- The codes of quantizer `k`. -/
def kCode (k : ℕ) : IVec S1x512 32 := kIdx (kDist (kR X P k) (P k))

/-- The differences of quantizer `k`. -/
def kDk (k : ℕ) : FVec F S256x512 .f32 := kD (kR X P k) (P k)

/-- What the block of the result is. -/
def kQuant : FVec F S1x256x512 .f32 :=
  shapeCast S1x256x512 (subf (shapeCast S256x512 X shapeCasts_S1x256x512_S256x512) (kR X P 8)) shapeCasts_S256x512_S1x256x512

/-- Slab `k` of a stack of eight. -/
def slab {a b : ℕ} {α : Type} (x : (⟨3, ![8, a, b]⟩ : Shape).Idx → α) (k : ℕ) : (⟨3, ![1, a, b]⟩ : Shape).Idx → α :=
  fun i => x (ValueIdx.ix3 ⟨k % 8, Nat.mod_lt _ (by decide)⟩ (i 1) (i 2))

/-- Column `k` of eight. -/
def colAt {a : ℕ} {α : Type} (x : (⟨2, ![a, 8]⟩ : Shape).Idx → α) (k : ℕ) : (⟨2, ![a, 1]⟩ : Shape).Idx → α :=
  fun i => x (ValueIdx.ix2 (i 0) ⟨k % 8, Nat.mod_lt _ (by decide)⟩)

/-- The eight quantizers' slabs. -/
def slabs (x1 : Vec F S8x1024x256 .f32) (x2 x3 x4 : Vec F S8x256x1024 .bf16) (x5 : Vec F S8x1024x1 .f32) (k : ℕ) : Slab F where
  cb := slab x1 k
  c2 := slab x5 k
  hi := slab x2 k
  mid := slab x3 k
  lo := slab x4 k

end Cert.Rvq.K
-- ==== Proof.Spec.lean ====
/-
  The mathematics of residual vector quantisation over the extended reals, with no program in sight: one column of
  the input (its 256 coordinates), the codebooks, and what the quantizers do to the column one after the other.
-/
module

public import Idealize.ShloMosaic.PureOps
public import Idealize.ShloMosaic.PureOps.Ideal.Laws

@[expose] public section

noncomputable section

namespace Cert.Rvq

/-- A column: the 256 coordinates of one position of one batch entry. -/
abbrev Col := Fin 256 → EReal
/-- A codebook: 1024 rows of 256 coordinates. -/
abbrev Book := Fin 1024 → Col

/-- A real number, as an extended real. -/
def Fin' (x : EReal) : Prop := x ≠ ⊤ ∧ x ≠ ⊥

/-- The squared length of a column. -/
def sqn (v : Col) : EReal := ∑ d, v d * v d

/-- The squared distance from column `r` to row `j` of codebook `B`, as both programs compute it. -/
def dist (B : Book) (r : Col) (j : Fin 1024) : EReal := sqn r - 2 * (∑ d, r d * B j d) + sqn (B j)

/-- `k` is the first place at which `f` is least. -/
def IsFirst (f : Fin 1024 → EReal) (k : Fin 1024) : Prop := (∀ j, f k ≤ f j) ∧ ∀ j, f j = f k → k ≤ j

/-- There is such a place. -/
theorem exists_isFirst (f : Fin 1024 → EReal) : ∃ k, IsFirst f k := by
  obtain ⟨k₀, -, h₀⟩ := Finset.exists_min_image Finset.univ f ⟨0, Finset.mem_univ _⟩
  have hne : (Finset.univ.filter fun j => ∀ i, f j ≤ f i).Nonempty := ⟨k₀, by simp; exact fun i => h₀ i (Finset.mem_univ _)⟩
  refine ⟨Finset.min' _ hne, ?_, ?_⟩
  · have := Finset.min'_mem _ hne
    simpa using this
  · intro j hj
    refine Finset.min'_le _ _ ?_
    have := Finset.min'_mem _ hne
    simp only [Finset.mem_filter, Finset.mem_univ, true_and] at this ⊢
    intro i; rw [hj]; exact this i

/-- The first place at which `f` is least. -/
def first (f : Fin 1024 → EReal) : Fin 1024 := (exists_isFirst f).choose

theorem first_spec (f : Fin 1024 → EReal) : IsFirst f (first f) := (exists_isFirst f).choose_spec

/-- There is only one. -/
theorem IsFirst.eq_first {f : Fin 1024 → EReal} {k : Fin 1024} (h : IsFirst f k) : k = first f := by
  have h' := first_spec f
  have he : f k = f (first f) := le_antisymm (h.1 _) (h'.1 _)
  exact le_antisymm (h.2 _ he.symm) (h'.2 _ he)

/-- The row that codebook `B` gives column `r`. -/
def pick (B : Book) (r : Col) : Col := B (first (dist B r))

/-- The straight-through value of `r` when the codebook's row is `q`. -/
def through (r q : EReal) : EReal := r + (q - r)

/-- The residual of column `x` before quantizer `n`. -/
def res (CB : ℕ → Book) (x : Col) : ℕ → Col
  | 0 => x
  | n + 1 => fun d => res CB x n d - through (res CB x n d) (pick (CB n) (res CB x n) d)

/-- The row number that quantizer `n` gives column `x`. -/
def code (CB : ℕ → Book) (x : Col) (n : ℕ) : Fin 1024 := first (dist (CB n) (res CB x n))

/-- The difference between quantizer `n`'s row and the residual it is given. -/
def diff (CB : ℕ → Book) (x : Col) (n : ℕ) (d : Fin 256) : EReal := pick (CB n) (res CB x n) d - res CB x n d

/-- The sum of the straight-through values of the quantizers before `n`, from zero. -/
def acc (CB : ℕ → Book) (x : Col) : ℕ → Col
  | 0 => fun _ => 0
  | n + 1 => fun d => acc CB x n d + through (res CB x n d) (pick (CB n) (res CB x n) d)

/-- With real codebooks an infinite coordinate of the column stays what it is. -/
theorem res_top {CB : ℕ → Book} (h : ∀ n j d, Fin' (CB n j d)) {x : Col} {d : Fin 256} (hx : x d = ⊤) : ∀ n, res CB x n d = ⊤
  | 0 => hx
  | n + 1 => by
    show res CB x n d - through (res CB x n d) _ = ⊤
    rw [res_top h hx n]
    obtain ⟨h1, h2⟩ := h n (first (dist (CB n) (res CB x n))) d
    lift pick (CB n) (res CB x n) d to ℝ using ⟨h1, h2⟩ with q
    simp [through]

theorem res_bot {CB : ℕ → Book} (h : ∀ n j d, Fin' (CB n j d)) {x : Col} {d : Fin 256} (hx : x d = ⊥) : ∀ n, res CB x n d = ⊥
  | 0 => hx
  | n + 1 => by
    show res CB x n d - through (res CB x n d) _ = ⊥
    rw [res_bot h hx n]
    obtain ⟨h1, h2⟩ := h n (first (dist (CB n) (res CB x n))) d
    lift pick (CB n) (res CB x n) d to ℝ using ⟨h1, h2⟩ with q
    simp [through]

/-- At a real coordinate the residual stays real, and the running sum is what has been taken off. -/
theorem acc_real {CB : ℕ → Book} (h : ∀ n j d, Fin' (CB n j d)) {x : Col} {d : Fin 256} {a : ℝ} (hx : x d = a) :
    ∀ n, ∃ r : ℝ, res CB x n d = r ∧ acc CB x n d = ((a - r : ℝ) : EReal)
  | 0 => ⟨a, hx, by simp [acc]⟩
  | n + 1 => by
    obtain ⟨r, hr, ha⟩ := acc_real h hx n
    obtain ⟨h1, h2⟩ := h n (first (dist (CB n) (res CB x n))) d
    have hq : ∃ q : ℝ, pick (CB n) (res CB x n) d = q := ⟨_, (EReal.coe_toReal h1 h2).symm⟩
    obtain ⟨q, hq⟩ := hq
    refine ⟨r - (r + (q - r)), ?_, ?_⟩
    · show res CB x n d - through (res CB x n d) _ = _
      rw [hr, hq, through]; norm_cast
    · show acc CB x n d + through (res CB x n d) _ = _
      rw [ha, hr, hq, through]; norm_cast; ring

/-- With real codebooks the sum of all the straight-through values is the column less the last residual, at infinite
    coordinates too: there both sides are `⊥`. -/
theorem acc_eq {CB : ℕ → Book} (h : ∀ n j d, Fin' (CB n j d)) (x : Col) (d : Fin 256) (n : ℕ) :
    acc CB x (n + 1) d = x d - res CB x (n + 1) d := by
  have hq := h n (first (dist (CB n) (res CB x n))) d
  obtain hx | hx | ⟨a, hx⟩ : x d = ⊥ ∨ x d = ⊤ ∨ ∃ a : ℝ, x d = a := by
    induction x d using EReal.rec with
    | bot => exact Or.inl rfl
    | top => exact Or.inr (Or.inl rfl)
    | coe a => exact Or.inr (Or.inr ⟨a, rfl⟩)
  · rw [res_bot h hx, hx]
    show acc CB x n d + through (res CB x n d) _ = _
    rw [res_bot h hx, through]; simp
  · rw [res_top h hx, hx]
    show acc CB x n d + through (res CB x n d) (pick (CB n) (res CB x n) d) = _
    rw [res_top h hx, through]
    lift pick (CB n) (res CB x n) d to ℝ using hq with q
    simp
  · obtain ⟨r, hr, ha⟩ := acc_real h hx (n + 1)
    rw [hr, ha, hx]; norm_cast

/-- A sum of squares is not negative. -/
theorem sq_nonneg' (x : EReal) : 0 ≤ x * x := by
  rcases le_total 0 x with h | h
  · exact mul_nonneg h h
  · have := EReal.mul_nonneg_iff.2 (Or.inr ⟨h, h⟩); exact this

/-- The two programs' loss of one quantizer, from the sum `S` of its squared differences: a quarter of the mean and
    the mean, added, are five quarters of the sum over the count. -/
theorem loss_eq {S : EReal} (hS : 0 ≤ S) :
    ((1 / 4 : ℝ) : EReal) * Idealize.ShloMosaic.Ideal.div S ((8388608 : ℝ) : EReal)
        + 1 * Idealize.ShloMosaic.Ideal.div S ((8388608 : ℝ) : EReal)
      = Idealize.ShloMosaic.Ideal.div (((5 / 4 : ℝ) : EReal) * S) ((8388608 : ℝ) : EReal) := by
  rw [Idealize.ShloMosaic.Ideal.div_coe (by norm_num), Idealize.ShloMosaic.Ideal.div_coe (by norm_num)]
  induction S using EReal.rec with
  | bot => simp at hS
  | top =>
    rw [EReal.top_mul_coe_of_pos (by norm_num), EReal.coe_mul_top_of_pos (by norm_num),
      EReal.coe_mul_top_of_pos (by norm_num), EReal.top_mul_coe_of_pos (by norm_num)]; simp
  | coe s => norm_cast; ring

end Cert.Rvq

end
-- ==== Proof.First.lean ====
/- HOW BOTH PROGRAMS FIND THE FIRST LEAST PLACE. The kernel takes the minimum of the 1024 distances, puts the row number
   where a distance equals it and 1024 elsewhere, and takes the integer minimum; the reference folds pairs (distance,
   row number), the smaller distance winning and on equal distances the smaller row. Either way the word that comes out
   is the number of `first`. -/
module

public import proofs.«01_k».proof.Proof.Spec
public import proofs.«01_k».proof.ReferenceIdeal
public import Idealize.ShloMosaic.PureOps.Ideal.Laws
public import Idealize.ShloMosaic.PureOps.Reduce

@[expose] public section

noncomputable section

namespace Cert.Rvq

open Idealize.ShloMosaic

/-- The word of a row number. -/
def word (k : Fin 1024) : BitVec 32 := BitVec.ofNat 32 k

theorem word_toInt (k : Fin 1024) : (word k).toInt = (k.val : ℤ) := by
  have := k.isLt
  rw [word, BitVec.toInt_eq_toNat_of_lt (by rw [BitVec.toNat_ofNat]; omega), BitVec.toNat_ofNat]; omega

theorem word_toNat (k : Fin 1024) : (word k).toNat = k.val := by
  have := k.isLt
  rw [word, BitVec.toNat_ofNat]; omega

theorem word_inj {j k : Fin 1024} (h : word j = word k) : j = k := Fin.ext (by rw [← word_toNat j, h, word_toNat])

/-! ## The kernel's way -/

/-- The signed minimum of two words is the minimum of the integers they are. -/
theorem minsi_toInt (x y : BitVec 32) : (IKind.minsi.op x y).toInt = min x.toInt y.toInt := by
  show (IntOp.minsi x y).toInt = _
  unfold IntOp.minsi
  by_cases h : x.slt y
  · rw [if_pos h, min_eq_left]; exact le_of_lt (by simpa [BitVec.slt] using h)
  · rw [if_neg h, min_eq_right]; have := h; simp [BitVec.slt] at this; exact this

/-- A minimum over all rows from `⊤` is a lower bound that a row attains: the distance at the first least place. -/
theorem fold_min_eq (f : Fin 1024 → EReal) : Finset.univ.fold min ⊤ f = f (first f) := by
  apply le_antisymm
  · exact (Finset.fold_min_le _).2 (Or.inr ⟨_, Finset.mem_univ _, le_rfl⟩)
  · exact (Finset.le_fold_min _).2 ⟨le_top, fun j _ => (first_spec f).1 j⟩

/-- The integer minimum of the row numbers at the least distance, 1024 at the other rows: the first least place. -/
theorem fold_minsi_eq (f : Fin 1024 → EReal) :
    Finset.univ.fold IKind.minsi.op 2147483647#32 (fun j => if f j = f (first f) then word j else 1024#32) = word (first f) := by
  apply BitVec.eq_of_toInt_eq
  rw [← Finset.fold_hom (op' := min) (m := BitVec.toInt) minsi_toInt, word_toInt]
  have hk := (first f).isLt
  apply le_antisymm
  · refine (Finset.fold_min_le _).2 (Or.inr ⟨first f, Finset.mem_univ _, ?_⟩)
    simp only [if_pos]; rw [word_toInt]
  · refine (Finset.le_fold_min _).2 ⟨?_, fun j _ => ?_⟩
    · rw [show (2147483647#32 : BitVec 32).toInt = 2147483647 from rfl]; omega
    · by_cases h : f j = f (first f)
      · simp only [if_pos h]; rw [word_toInt]; exact_mod_cast (first_spec f).2 j h
      · simp only [if_neg h]; rw [show (1024#32 : BitVec 32).toInt = 1024 from rfl]; omega

/-! ## The reference's way -/

/-- The order of the pairs: the smaller value, and on equal values the smaller number. -/
def Le (p q : EReal × BitVec 32) : Prop := p.1 < q.1 ∨ p.1 = q.1 ∧ p.2.toInt ≤ q.2.toInt

theorem Le.refl (p : EReal × BitVec 32) : Le p p := Or.inr ⟨rfl, le_rfl⟩

theorem Le.trans {p q r : EReal × BitVec 32} (h : Le p q) (h' : Le q r) : Le p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- The reference's way of choosing between two pairs is the lesser of them. -/
theorem reducer_spec (p q : EReal × BitVec 32) :
    (Cert.ReferenceIdeal.reducer_argmin_f32_i32 (F := Ideal) p q = p ∨ Cert.ReferenceIdeal.reducer_argmin_f32_i32 (F := Ideal) p q = q)
      ∧ Le (Cert.ReferenceIdeal.reducer_argmin_f32_i32 (F := Ideal) p q) p
      ∧ Le (Cert.ReferenceIdeal.reducer_argmin_f32_i32 (F := Ideal) p q) q := by
  obtain ⟨a, i⟩ := p; obtain ⟨b, k⟩ := q
  have hr : Cert.ReferenceIdeal.reducer_argmin_f32_i32 (F := Ideal) (a, i) (b, k)
      = if a < b ∨ a = b ∧ i.toInt < k.toInt then (a, i) else (b, k) := by
    unfold Cert.ReferenceIdeal.reducer_argmin_f32_i32
    rcases lt_trichotomy a b with h | h | h
    · simp [Ideal.cmpf_def, Ideal.cmp, h, ne_of_lt h, IntOp.ori, IntOp.andi, Scalar.select]
    · subst h
      by_cases hik : i.toInt < k.toInt <;>
        simp [Ideal.cmpf_def, Ideal.cmp, IntOp.ori, IntOp.andi, IntOp.cmpi, Scalar.select, hik, BitVec.slt]
    · simp [Ideal.cmpf_def, Ideal.cmp, not_lt_of_gt h, ne_of_gt h, IntOp.ori, IntOp.andi, Scalar.select]
  rw [hr]
  split
  · rename_i h
    refine ⟨Or.inl rfl, Le.refl _, ?_⟩
    rcases h with h | ⟨h, h'⟩
    · exact Or.inl h
    · exact Or.inr ⟨h, le_of_lt h'⟩
  · rename_i h
    refine ⟨Or.inr rfl, ?_, Le.refl _⟩
    rw [not_or, not_and] at h
    rcases lt_or_eq_of_le (not_lt.mp h.1) with h' | h'
    · exact Or.inl h'
    · exact Or.inr ⟨h', not_lt.mp (h.2 h'.symm)⟩

/-- So a fold over a list comes out at the first pair or at one of the list's, below all of them. -/
theorem foldl_spec : ∀ (L : List (EReal × BitVec 32)) (p : EReal × BitVec 32),
    (L.foldl (Cert.ReferenceIdeal.reducer_argmin_f32_i32 (F := Ideal)) p = p ∨ L.foldl (Cert.ReferenceIdeal.reducer_argmin_f32_i32 (F := Ideal)) p ∈ L)
      ∧ Le (L.foldl (Cert.ReferenceIdeal.reducer_argmin_f32_i32 (F := Ideal)) p) p
      ∧ ∀ q ∈ L, Le (L.foldl (Cert.ReferenceIdeal.reducer_argmin_f32_i32 (F := Ideal)) p) q
  | [], p => ⟨Or.inl rfl, Le.refl p, fun _ h => absurd h List.not_mem_nil⟩
  | q :: L, p => by
    obtain ⟨h1, h2, h3⟩ := foldl_spec L (Cert.ReferenceIdeal.reducer_argmin_f32_i32 (F := Ideal) p q)
    obtain ⟨s1, s2, s3⟩ := reducer_spec p q
    rw [List.foldl_cons]
    refine ⟨?_, h2.trans s2, fun r hr => ?_⟩
    · rcases h1 with h1 | h1
      · rw [h1]
        rcases s1 with s1 | s1
        · exact Or.inl s1
        · exact Or.inr (by rw [s1]; exact List.mem_cons_self)
      · exact Or.inr (List.mem_cons_of_mem _ h1)
    · rcases List.mem_cons.mp hr with rfl | hr
      · exact h2.trans s3
      · exact h3 r hr

/-- A list whose pairs are exactly the rows' (distance, number), folded from (`⊤`, 0), gives the first least place. -/
theorem foldl_first (f : Fin 1024 → EReal) (L : List (EReal × BitVec 32))
    (h1 : ∀ k, (f k, word k) ∈ L) (h2 : ∀ p ∈ L, ∃ k, p = (f k, word k)) :
    (L.foldl (Cert.ReferenceIdeal.reducer_argmin_f32_i32 (F := Ideal)) (⊤, 0#32)).2 = word (first f) := by
  obtain ⟨a, b, c⟩ := foldl_spec L (⊤, 0#32)
  obtain ⟨k, hk, hk'⟩ : ∃ k, (L.foldl (Cert.ReferenceIdeal.reducer_argmin_f32_i32 (F := Ideal)) (⊤, 0#32)).1 = f k
      ∧ (L.foldl (Cert.ReferenceIdeal.reducer_argmin_f32_i32 (F := Ideal)) (⊤, 0#32)).2 = word k := by
    rcases a with a | a
    · refine ⟨0, ?_, by rw [a]; rfl⟩
      have := c _ (h1 0)
      rw [a] at this ⊢
      rcases this with h | h
      · exact absurd h (not_lt.mpr le_top)
      · exact h.1
    · obtain ⟨k, hk⟩ := h2 _ a
      exact ⟨k, by rw [hk], by rw [hk]⟩
  have hf : IsFirst f k := by
    refine ⟨fun j => ?_, fun j hj => ?_⟩
    · rcases c _ (h1 j) with h | h
      · rw [hk] at h; exact le_of_lt h
      · exact le_of_eq (hk ▸ h.1)
    · rcases c _ (h1 j) with h | h
      · rw [hk] at h; exact absurd hj (ne_of_gt h)
      · have := h.2; rw [hk', word_toInt, word_toInt] at this; exact_mod_cast this
  rw [hk', hf.eq_first]

end Cert.Rvq
-- ==== Proof.KRead.lean ====
/- ONE QUANTIZER OF THE KERNEL OVER THE REALS. With the codebook's slab, its squared lengths and its transpose's three
   parts (the codebook, zero, zero) as they are at the ideal instance, the kernel's step on a block of 512 columns is the
   quantizer of `Spec` on each column. -/
module

public import proofs.«01_k».proof.Proof.KStep
public import proofs.«01_k».proof.Proof.Spec
public import proofs.«01_k».proof.Proof.First
public import Idealize.ShloMosaic.Lib.MatmulPlain
public import Idealize.ShloMosaic.Lib.ValueLayout
public import Idealize.ShloMosaic.Lib.ValueLayoutCasts
public import Idealize.ShloMosaic.Lib.ValueIdx

@[expose] public section

noncomputable section

namespace Cert.Rvq.K

open Cert.KernelIdeal Cert.KernelIdeal.Gen
open Idealize.ShloMosaic Idealize.ShloMosaic.TcCoe
open Idealize.ShloMosaic.ValueIdx

/-- What the kernel reads of one quantizer is codebook `B`, its squared lengths, and its transpose in three parts. -/
structure IsSlab (s : Slab Ideal) (B : Book) : Prop where
  cb : ∀ (j : Fin 1024) (d : Fin 256), s.cb (ix3 0 j d : S1x1024x256.Idx) = B j d
  c2 : ∀ j : Fin 1024, s.c2 (ix3 0 j 0 : S1x1024x1.Idx) = sqn (B j)
  hi : ∀ (d : Fin 256) (j : Fin 1024), s.hi (ix3 0 d j : S1x256x1024.Idx) = B j d
  mid : ∀ (d : Fin 256) (j : Fin 1024), s.mid (ix3 0 d j : S1x256x1024.Idx) = 0
  lo : ∀ (d : Fin 256) (j : Fin 1024), s.lo (ix3 0 d j : S1x256x1024.Idx) = 0

/-- Column `l` of a block. -/
def col (r : FVec Ideal S256x512 .f32) (l : Fin 512) : Col := fun d => r (ix2 d l : S256x512.Idx)

/-- The literal 2. -/
theorem two_lit : Ideal.ofBits .f32 0x40000000#32 = 2 := by
  simp [Ideal.ofBits, Ideal.ieee, -EReal.coe_mul]; norm_num; rfl

/-- The literal infinity. -/
theorem inf_lit : Ideal.ofBits .f32 0x7F800000#32 = ⊤ := by
  simp [Ideal.ofBits, Ideal.ieee]

theorem lift_0 (h : S256x512.Reduces [0] S512) (l : Fin 512) (d : Fin 256) :
    h.lift (ix1 l : S512.Idx) d = (ix2 d l : S256x512.Idx) := by
  funext a; match a with | ⟨0, _⟩ => rfl | ⟨1, _⟩ => rfl

theorem lift_0' (h : S1024x512.Reduces [0] S512) (l : Fin 512) (j : Fin 1024) :
    h.lift (ix1 l : S512.Idx) j = (ix2 j l : S1024x512.Idx) := by
  funext a; match a with | ⟨0, _⟩ => rfl | ⟨1, _⟩ => rfl

theorem lift_1 (h : S256x512.Reduces [1] S256) (d : Fin 256) (l : Fin 512) :
    h.lift (ix1 d : S256.Idx) l = (ix2 d l : S256x512.Idx) := by
  funext a; match a with | ⟨0, _⟩ => rfl | ⟨1, _⟩ => rfl

/-- A sum down the 256 coordinates. -/
theorem sum_0 (v : FVec Ideal S256x512 .f32) (l : Fin 512) :
    multiReduction .add [0] S512 v 0x00000000#32 reduces_S256x512_S512 (.inl rfl) rfl (ix1 l : S512.Idx) = ∑ d : Fin 256, v (ix2 d l : S256x512.Idx) :=
  (Ideal.multiReduction_add_single v _ reduces_S256x512_S512 _ _ _).trans (Finset.sum_congr rfl fun d _ => congrArg v (lift_0 _ l d))

/-- A sum along the 512 columns. -/
theorem sum_1 (v : FVec Ideal S256x512 .f32) (d : Fin 256) :
    multiReduction .add [1] S256 v 0x00000000#32 reduces_S256x512_S256 (.inl rfl) rfl (ix1 d : S256.Idx) = ∑ l : Fin 512, v (ix2 d l : S256x512.Idx) :=
  (Ideal.multiReduction_add_single v _ reduces_S256x512_S256 _ _ _).trans (Finset.sum_congr rfl fun l _ => congrArg v (lift_1 _ d l))

/-- The least of the 1024 rows. -/
theorem min_0 (D : FVec Ideal S1024x512 .f32) (l : Fin 512) :
    multiReduction .minimumf [0] S512 D 0x7F800000#32 reduces_S1024x512_S512 (.inl rfl) rfl (ix1 l : S512.Idx)
      = (fun j => D (ix2 j l : S1024x512.Idx)) (first fun j => D (ix2 j l : S1024x512.Idx)) := by
  refine (multiReduction_minimumf_eq_fold D _ reduces_S1024x512_S512 _ _ _).trans ?_
  refine (Shape.Reduces.fold_filter_drop_single reduces_S1024x512_S512 _ _ _ _).trans ?_
  refine Eq.trans ?_ (fold_min_eq fun j => D (ix2 j l : S1024x512.Idx))
  show Finset.fold min (Ideal.ofBits .f32 0x7F800000#32) (D ∘ reduces_S1024x512_S512.lift (ix1 l : S512.Idx)) (Finset.univ : Finset (Fin 1024)) = _
  rw [inf_lit]
  refine congrArg (fun g => Finset.fold min (⊤ : EReal) g Finset.univ) ?_
  funext d; exact congrArg D (lift_0' _ l d)

/-- The least word of the 1024 rows. -/
theorem mini_0 (v : IVec S1024x512 32) (l : Fin 512) :
    multiReductionI .minsi [0] S512 v 2147483647#32 reduces_S1024x512_S512 rfl (ix1 l : S512.Idx)
      = Finset.univ.fold IKind.minsi.op 2147483647#32 (fun j : Fin 1024 => v (ix2 j l : S1024x512.Idx)) := by
  refine (multiReductionI_eq_fold .minsi v _ reduces_S1024x512_S512 _ _).trans ?_
  refine (Shape.Reduces.fold_filter_drop_single reduces_S1024x512_S512 _ _ _ _).trans ?_
  refine congrArg (fun g => Finset.fold IKind.minsi.op 2147483647#32 g Finset.univ) ?_
  funext d; exact congrArg v (lift_0' _ l d)

theorem bc_col {α : Type} (v : S1024x1.Idx → α) (j : Fin 1024) (l : Fin 512) :
    broadcastTo S1024x512 v broadcasts_S1024x1_S1024x512 (ix2 j l : S1024x512.Idx) = v (ix2 j 0 : S1024x1.Idx) := by
  unfold broadcastTo
  congr 1
  funext a; match a with | ⟨0, _⟩ => rfl | ⟨1, _⟩ => rfl

theorem kDist_apply {s : Slab Ideal} {B : Book} (h : IsSlab s B) (r : FVec Ideal S256x512 .f32) (j : Fin 1024) (l : Fin 512) :
    kDist r s (ix2 j l : S1024x512.Idx) = dist B (col r l) j := by
  unfold kDist dist
  rw [addf_apply, subf_apply, mulf_apply, bc_col, shapeCast_1ab_ab_apply, h.c2, broadcastTo_1b_ab_apply, shapeCast_a_1a_apply,
    sum_0]
  have e2 : broadcast S1024x512 (Scalar.ofBits (F := Ideal) .f32 0x40000000#32) (ix2 j l : S1024x512.Idx) = 2 := two_lit
  have e3 : matmul dot_S1024x256_S256x512_S1024x512_1_0_0_1_n_n none (shapeCast S1024x256 (α := Ideal .f32) s.cb shapeCasts_S1x1024x256_S1024x256 : FVec Ideal S1024x256 .f32) r (constant S1024x512 .f32 0x00000000#32) (ix2 j l : S1024x512.Idx)
      = ∑ d, col r l d * B j d := by
    refine (Ideal.matmul_plain_apply (M := 1024) (K := 256) (N := 512) none (shapeCast S1024x256 s.cb shapeCasts_S1x1024x256_S1024x256) r (constant S1024x512 .f32 0x00000000#32) j l).trans ?_
    rw [constant_apply, Ideal.ofBits_zero_f32, zero_add]
    refine Finset.sum_congr rfl fun d _ => ?_
    rw [shapeCast_1ab_ab_apply, h.cb, mul_comm]; rfl
  rw [e2, e3]
  rfl

/-- The rows' numbers. -/
theorem kRows_apply (j : Fin 1024) (l : Fin 512) : kRows (ix2 j l : S1024x512.Idx) = word j := by
  unfold kRows word iota
  congr 1
  show 0 * 1024 + j.val = j.val
  omega

theorem kIdx_apply (D : FVec Ideal S1024x512 .f32) (l : Fin 512) :
    kIdx D (ix2 0 l : S1x512.Idx) = word (first fun j => D (ix2 j l : S1024x512.Idx)) := by
  unfold kIdx
  have em : ∀ j : Fin 1024, broadcastTo S1024x512 (shapeCast S1x512 (multiReduction .minimumf [0] S512 D 0x7F800000#32 reduces_S1024x512_S512 (.inl rfl) rfl) shapeCasts_S512_S1x512) broadcasts_S1x512_S1024x512 (ix2 j l : S1024x512.Idx)
      = (fun j => D (ix2 j l : S1024x512.Idx)) (first fun j => D (ix2 j l : S1024x512.Idx)) := by
    intro j
    rw [broadcastTo_1b_ab_apply, shapeCast_a_1a_apply]
    exact min_0 D l
  rw [shapeCast_a_1a_apply]
  refine (mini_0 _ l).trans ?_
  rw [← fold_minsi_eq]
  refine congrArg (fun g => Finset.fold IKind.minsi.op 2147483647#32 g Finset.univ) ?_
  funext j
  rw [select_apply, cmpf_apply, em, kRows_apply]
  simp only [Ideal.cmpf_def, Ideal.cmp]
  by_cases hh : D (ix2 j l : S1024x512.Idx) = D (ix2 (first fun j => D (ix2 j l : S1024x512.Idx)) l : S1024x512.Idx)
  · simp [hh]; rfl
  · simp [hh]; rfl

theorem kOne_apply (i : IVec S1x512 32) (k : Fin 1024) (l : Fin 512) (h : i (ix2 0 l : S1x512.Idx) = word k) (j : Fin 1024) :
    kOne (F := Ideal) i (ix2 j l : S1024x512.Idx) = if j = k then 1 else 0 := by
  unfold kOne
  rw [truncf_apply]
  show (((BitVec.setWidth 32 (IntOp.cmpi .eq (kRows (ix2 j l)) (broadcastTo S1024x512 i broadcasts_S1x512_S1024x512 (ix2 j l : S1024x512.Idx)))).toInt : ℝ) : EReal) = _
  rw [kRows_apply, broadcastTo_1b_ab_apply, h]
  by_cases e : j = k
  · subst e; simp [IntOp.cmpi]
  · have : word j ≠ word k := fun h => e (word_inj h)
    have e' : (word j == word k) = false := by simpa using this
    simp [IntOp.cmpi, e', e]

theorem kPart_apply (p : Vec Ideal S1x256x1024 .bf16) (o : FVec Ideal S1024x512 .bf16) (k : Fin 1024) (l : Fin 512)
    (h : ∀ j, o (ix2 j l : S1024x512.Idx) = if j = k then 1 else 0) (d : Fin 256) :
    kPart p o (ix2 d l : S256x512.Idx) = p (ix3 0 d k : S1x256x1024.Idx) := by
  unfold kPart
  refine (Ideal.matmul_plain_apply (M := 256) (K := 1024) (N := 512) none (shapeCast S256x1024 p shapeCasts_S1x256x1024_S256x1024) o (constant S256x512 .f32 0x00000000#32) d l).trans ?_
  rw [constant_apply, Ideal.ofBits_zero_f32, zero_add, Finset.sum_eq_single k]
  · rw [h, if_pos rfl, mul_one, shapeCast_1ab_ab_apply]
  · intro j _ hj; rw [h, if_neg hj, mul_zero]
  · intro hk; exact absurd (Finset.mem_univ _) hk

theorem col_kDist {s : Slab Ideal} {B : Book} (h : IsSlab s B) (r : FVec Ideal S256x512 .f32) (l : Fin 512) :
    (fun j => kDist r s (ix2 j l : S1024x512.Idx)) = dist B (col r l) := funext fun j => kDist_apply h r j l

/-- The differences: the chosen row less the residual. -/
theorem kD_apply {s : Slab Ideal} {B : Book} (h : IsSlab s B) (r : FVec Ideal S256x512 .f32) (d : Fin 256) (l : Fin 512) :
    kD r s (ix2 d l : S256x512.Idx) = pick B (col r l) d - col r l d := by
  have ho : ∀ j, kOne (F := Ideal) (kIdx (kDist r s)) (ix2 j l : S1024x512.Idx) = if j = first (dist B (col r l)) then 1 else 0 :=
    kOne_apply _ _ l (by rw [kIdx_apply, col_kDist h])
  unfold kD kDiff
  rw [subf_apply, addf_apply, addf_apply, kPart_apply _ _ _ _ ho, kPart_apply _ _ _ _ ho, kPart_apply _ _ _ _ ho, h.hi, h.mid, h.lo,
    add_zero, add_zero]
  rfl

variable {X : Vec Ideal S1x256x512 .f32} {P : ℕ → Slab Ideal} {CB : ℕ → Book}

/-- The residuals are the columns' residuals. -/
theorem col_kR (h : ∀ k, IsSlab (P k) (CB k)) (l : Fin 512) : ∀ k : ℕ,
    col (kR X P k) l = res CB (fun d => X (ix3 0 d l : S1x256x512.Idx)) k
  | 0 => by
    funext d
    exact shapeCast_1ab_ab_apply X _ d l
  | k + 1 => by
    have ih := col_kR h l k
    funext d
    show kNext (kR X P k) (kD (kR X P k) (P k)) (ix2 d l : S256x512.Idx) = _
    unfold kNext
    rw [subf_apply, addf_apply, kD_apply (h k), ih]
    show col (kR X P k) l d - (col (kR X P k) l d + _) = _
    rw [ih]; rfl

theorem kCode_apply (h : ∀ k, IsSlab (P k) (CB k)) (l : Fin 512) (k : ℕ) :
    kCode X P k (ix2 0 l : S1x512.Idx) = word (code CB (fun d => X (ix3 0 d l : S1x256x512.Idx)) k) := by
  unfold kCode code
  rw [kIdx_apply, col_kDist (h k), col_kR h]

theorem kDk_apply (h : ∀ k, IsSlab (P k) (CB k)) (d : Fin 256) (l : Fin 512) (k : ℕ) :
    kDk X P k (ix2 d l : S256x512.Idx) = diff CB (fun d => X (ix3 0 d l : S1x256x512.Idx)) k d := by
  unfold kDk diff
  rw [kD_apply (h k), col_kR h]

theorem kQuant_apply (h : ∀ k, IsSlab (P k) (CB k)) (d : Fin 256) (l : Fin 512) :
    kQuant X P (ix3 0 d l : S1x256x512.Idx)
      = X (ix3 0 d l : S1x256x512.Idx) - res CB (fun d => X (ix3 0 d l : S1x256x512.Idx)) 8 d := by
  unfold kQuant
  rw [shapeCast_ab_1ab_apply, subf_apply, shapeCast_1ab_ab_apply, ← col_kR h]; rfl

theorem kRow_apply (i : IVec S1x512 32) (l : Fin 512) : kRow i (ix3 0 0 l : S1x1x512.Idx) = i (ix2 0 l : S1x512.Idx) := by
  unfold kRow
  have e : shapeCast S1x1x512 (shapeCast S512 i shapeCasts_S1x512_S512) shapeCasts_S512_S1x1x512 (ix3 0 0 l : S1x1x512.Idx)
      = shapeCast S512 i shapeCasts_S1x512_S512 (ix1 l : S512.Idx) :=
    shapeCast_apply _ _ _ _ (by
      rw [Shape.rowMajor_val_three, Shape.rowMajor_val_one]
      show l.val = (0 * 1 + 0) * 512 + l.val
      omega)
  rw [e, shapeCast_1a_a_apply]

theorem kSq_apply (h : ∀ k, IsSlab (P k) (CB k)) (old : Vec Ideal S256x1 .f32) (d : Fin 256) (k : ℕ) :
    kSq (kDk X P k) old (ix2 d 0 : S256x1.Idx)
      = old (ix2 d 0 : S256x1.Idx) + ∑ l : Fin 512, diff CB (fun d => X (ix3 0 d l : S1x256x512.Idx)) k d * diff CB (fun d => X (ix3 0 d l : S1x256x512.Idx)) k d := by
  unfold kSq
  rw [addf_apply, shapeCast_a_a1_apply, sum_1, shapeCast_self]
  refine congrArg (old (ix2 d 0 : S256x1.Idx) + ·) (Finset.sum_congr rfl fun l _ => ?_)
  rw [mulf_apply, kDk_apply h]

end Cert.Rvq.K
-- ==== Proof.Results.lean ====
/- THE FOUR RESULTS, as functions of the input, the codebooks and the sample rate, with no program in sight: what both
   programs are shown to compute. -/
module

public import proofs.«01_k».proof.Proof.Spec
public import proofs.«01_k».proof.Proof.First
public import Idealize.ShloMosaic.Lib.ValueIdx

@[expose] public section

noncomputable section

namespace Cert.Rvq

open Idealize.ShloMosaic Idealize.ShloMosaic.ValueIdx

/-- The input's entries. -/
abbrev XArr := (⟨3, ![16, 256, 2048]⟩ : Shape).Idx → EReal
/-- The codebooks' entries. -/
abbrev CArr := (⟨3, ![8, 1024, 256]⟩ : Shape).Idx → EReal

/-- The codebooks as one codebook per quantizer. -/
def book (C : CArr) (k : ℕ) : Book := fun j d => C (ix3 ⟨k % 8, Nat.mod_lt _ (by decide)⟩ j d)

/-- Column `n` of batch entry `b` of the input. -/
def column (X : XArr) (b : Fin 16) (n : Fin 2048) : Col := fun d => X (ix3 b d n)

/-- The first result: the input less the residual after the eight quantizers. -/
def quantOf (X : XArr) (C : CArr) : (⟨3, ![16, 256, 2048]⟩ : Shape).Idx → EReal :=
  fun i => X i - res (book C) (column X (i 0) (i 2)) 8 (i 1)

/-- The second result: the codes, quantizer by quantizer. -/
def codesOf (X : XArr) (C : CArr) : (⟨3, ![8, 16, 2048]⟩ : Shape).Idx → BitVec 32 :=
  fun i => word (code (book C) (column X (i 1) (i 2)) (i 0).val)

/-- The third result: the bandwidth, from the sample rate. -/
def bwOf (s : (⟨0, ![]⟩ : Shape).Idx → BitVec 32) : (⟨0, ![]⟩ : Shape).Idx → EReal :=
  Host.divf (F := Ideal) (φ := .f32) (mulf (constant ⟨0, ![]⟩ .f32 0x42A00000#32) (sitofp .f32 s)) (constant ⟨0, ![]⟩ .f32 0x447A0000#32)

/-- The square of quantizer `k`'s difference at one place. -/
def sqDiff (X : XArr) (C : CArr) (k : ℕ) (d : Fin 256) (b : Fin 16) (n : Fin 2048) : EReal :=
  diff (book C) (column X b n) k d * diff (book C) (column X b n) k d

/-- The sum of the squares of quantizer `k`'s differences. -/
def total (X : XArr) (C : CArr) (k : ℕ) : EReal := ∑ b : Fin 16, ∑ n : Fin 2048, ∑ d : Fin 256, sqDiff X C k d b n

/-- Quantizer `k`'s loss: 5/4 of the mean of the squares. -/
def lossAt (X : XArr) (C : CArr) (k : ℕ) : EReal := Ideal.div (((5 / 4 : ℝ) : EReal) * total X C k) ((8388608 : ℝ) : EReal)

/-- The fourth result: the mean of the quantizers' losses. -/
def lossOf (X : XArr) (C : CArr) : (⟨0, ![]⟩ : Shape).Idx → EReal :=
  fun _ => Ideal.div (∑ k : Fin 8, lossAt X C k.val) ((8 : ℝ) : EReal)

theorem total_nonneg (X : XArr) (C : CArr) (k : ℕ) : 0 ≤ total X C k :=
  Finset.sum_nonneg fun _ _ => Finset.sum_nonneg fun _ _ => Finset.sum_nonneg fun _ _ => sq_nonneg' _

/-! ## The sum, point by point of the kernel's grid -/

/-- The sum of the squares over the 512 columns of grid point `t`: batch entry `t / 4`, columns `512 (t % 4) + l`. -/
def sqPoint (X : XArr) (C : CArr) (k : ℕ) (d : Fin 256) (t : ℕ) : EReal :=
  ∑ l : Fin 512, sqDiff X C k d ⟨t / 4 % 16, Nat.mod_lt _ (by decide)⟩ ⟨512 * (t % 4) + l.val, by have := l.isLt; omega⟩

/-- Sixty-four points of 512 columns are sixteen batch entries of 2048 columns. -/
theorem sum_points (X : XArr) (C : CArr) (k : ℕ) (d : Fin 256) :
    ∑ t ∈ Finset.range 64, sqPoint X C k d t = ∑ b : Fin 16, ∑ n : Fin 2048, sqDiff X C k d b n := by
  rw [← Fin.sum_univ_eq_sum_range, ← Equiv.sum_comp (finProdFinEquiv : Fin 16 × Fin 4 ≃ Fin 64), Fintype.sum_prod_type]
  refine Finset.sum_congr rfl fun b _ => ?_
  rw [← Equiv.sum_comp (finProdFinEquiv : Fin 4 × Fin 512 ≃ Fin 2048), Fintype.sum_prod_type]
  refine Finset.sum_congr rfl fun q _ => ?_
  unfold sqPoint
  refine Finset.sum_congr rfl fun l _ => ?_
  have e1 : (⟨(finProdFinEquiv (b, q) : Fin 64).val / 4 % 16, Nat.mod_lt _ (by decide)⟩ : Fin 16) = b :=
    Fin.ext (by show (q.val + 4 * b.val) / 4 % 16 = b.val; omega)
  have e2 : (⟨512 * ((finProdFinEquiv (b, q) : Fin 64).val % 4) + l.val, by have := l.isLt; omega⟩ : Fin 2048) = finProdFinEquiv (q, l) :=
    Fin.ext (by show 512 * ((q.val + 4 * b.val) % 4) + l.val = l.val + 512 * q.val; omega)
  rw [e1, e2]

/-- So the points' sums, over the coordinates, are the sum of the squares. -/
theorem sum_points_total (X : XArr) (C : CArr) (k : ℕ) :
    ∑ d : Fin 256, ∑ t ∈ Finset.range 64, sqPoint X C k d t = total X C k := by
  unfold total
  rw [Finset.sum_congr rfl fun d _ => sum_points X C k d, Finset.sum_comm]
  refine Finset.sum_congr rfl fun b _ => ?_
  rw [Finset.sum_comm]

/-- A sum over a line of 8, by its places. -/
theorem sum_line (x : Shape.Idx ⟨1, ![8]⟩ → EReal) : ∑ i, x i = ∑ k : Fin 8, x (ix1 k) :=
  Fintype.sum_equiv ⟨fun i => i 0, fun k => ix1 k, fun i => (eq_ix1 i).symm, fun _ => rfl⟩ _ _ fun i => congrArg x (eq_ix1 i)

/-- A sum over all places of three axes, axis by axis. -/
theorem sum_places (x : Shape.Idx ⟨3, ![16, 2048, 256]⟩ → EReal) : ∑ i, x i = ∑ b : Fin 16, ∑ n : Fin 2048, ∑ d : Fin 256, x (ix3 b n d) := by
  refine (Fintype.sum_equiv (⟨fun i => (i 0, i 1, i 2), fun p => ix3 p.1 p.2.1 p.2.2, fun i => (eq_ix3 i).symm, fun _ => rfl⟩ :
    Shape.Idx ⟨3, ![16, 2048, 256]⟩ ≃ Fin 16 × Fin 2048 × Fin 256) _ (fun p => x (ix3 p.1 p.2.1 p.2.2)) fun i => congrArg x (eq_ix3 i)).trans ?_
  rw [Fintype.sum_prod_type]
  exact Finset.sum_congr rfl fun b _ => Fintype.sum_prod_type _

end Cert.Rvq
-- ==== Proof.KWin.lean ====
/- WHAT THE KERNEL'S BLOCKS ARE. The block of the input at each grid point, and the operands the host lays out before the
   launch: over the reals the codebooks, their squared lengths, and their transposes split in (the codebook, zero, zero). -/
module

public import proofs.«01_k».proof.Proof.KRead
public import proofs.«01_k».proof.Proof.Results
public import proofs.«01_k».proof.Proof.Gen.KernelIdeal.Frame
public import Idealize.ShloMosaic.Lib.Pipeline.Value
public import Idealize.ShloMosaic.Lib.IdealHost
public import Idealize.ShloMosaic.Lib.StableHlo.RunRead

@[expose] public section

set_option maxRecDepth 16384

noncomputable section

namespace Cert.Rvq.K

open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ)

/-- The input. -/
abbrev argX (c : Dev nD) : S16x256x2048.Idx → EReal := m ((c : Thread nD τ).loc main_arg0)
/-- The codebooks. -/
abbrev argC (c : Dev nD) : S8x1024x256.Idx → EReal := m ((c : Thread nD τ).loc main_arg1)

/-! ## The operands -/

/-- The first part is the whole transposed codebook. -/
theorem V_hi (c : Dev nD) (k : Fin 8) (d : Fin 256) (j : Fin 1024) :
    V m c main_call0_v7 (ix3 k d j : S8x256x1024.Idx) = argC m c (ix3 k j d) := by
  have e : V m c main_call0_v7 = transpose S8x256x1024 [0, 2, 1] (argC m c) transposes_S8x1024x256_S8x256x1024_0_2_1 := by
    unfold V V0
    simp only [List.flatten_cons, List.flatten_nil, List.append_nil]
    after_results
    rfl
  rw [e, transpose_ix3_021_apply]

/-- The second part is what the first leaves. -/
theorem V_mid (c : Dev nD) (k : Fin 8) (d : Fin 256) (j : Fin 1024) :
    V m c main_call0_v8 (ix3 k d j : S8x256x1024.Idx) = argC m c (ix3 k j d) - argC m c (ix3 k j d) := by
  have e : V m c main_call0_v8 = subf (F := Ideal) (φ := .f32) (transpose S8x256x1024 [0, 2, 1] (argC m c) transposes_S8x1024x256_S8x256x1024_0_2_1) (transpose S8x256x1024 [0, 2, 1] (argC m c) transposes_S8x1024x256_S8x256x1024_0_2_1) := by
    unfold V V0
    simp only [List.flatten_cons, List.flatten_nil, List.append_nil]
    after_results
    rfl
  rw [e, subf_apply, transpose_ix3_021_apply]

/-- The third part is what the first two leave. -/
theorem V_lo (c : Dev nD) (k : Fin 8) (d : Fin 256) (j : Fin 1024) :
    V m c main_call0_v9 (ix3 k d j : S8x256x1024.Idx) = (argC m c (ix3 k j d) - argC m c (ix3 k j d)) - (argC m c (ix3 k j d) - argC m c (ix3 k j d)) := by
  have e : V m c main_call0_v9 = subf (F := Ideal) (φ := .f32) (subf (F := Ideal) (φ := .f32) (transpose S8x256x1024 [0, 2, 1] (argC m c) transposes_S8x1024x256_S8x256x1024_0_2_1) (transpose S8x256x1024 [0, 2, 1] (argC m c) transposes_S8x1024x256_S8x256x1024_0_2_1))
      (subf (F := Ideal) (φ := .f32) (transpose S8x256x1024 [0, 2, 1] (argC m c) transposes_S8x1024x256_S8x256x1024_0_2_1) (transpose S8x256x1024 [0, 2, 1] (argC m c) transposes_S8x1024x256_S8x256x1024_0_2_1)) := by
    unfold V V0
    simp only [List.flatten_cons, List.flatten_nil, List.append_nil]
    after_results
    rfl
  rw [e, subf_apply, subf_apply, transpose_ix3_021_apply]

/-- The host's sum over the coordinates of the codebooks' squares. -/
theorem sum_rows (C : S8x1024x256.Idx → EReal) (k : Fin 8) (j : Fin 1024) :
    Host.reduceAdd (F := Ideal) (mulf (F := Ideal) (φ := .f32) C C) (constant S_ .f32 0x00000000#32) reducesTo_S8x1024x256_S8x1024_d2 h_S_ (ix2 k j : S8x1024.Idx)
      = sqn (fun d => C (ix3 k j d)) := by
  have hr : S8x1024x256.Reduces [2] S8x1024 := by decide
  rw [hostReduceAdd_apply, Ideal.hostReduceAdd_single _ hr, constant_apply, Ideal.ofBits_zero_f32, zero_add]
  unfold sqn
  refine Finset.sum_congr rfl fun d _ => ?_
  rw [mulf_apply]
  have el : hr.lift (ix2 k j : S8x1024.Idx) d = (ix3 k j d : S8x1024x256.Idx) := by
    funext a; match a with | ⟨0, _⟩ => rfl | ⟨1, _⟩ => rfl | ⟨2, _⟩ => rfl
  exact congrArg (fun i => C i * C i) el

/-- The squared lengths. -/
theorem V_c2 (c : Dev nD) (k : Fin 8) (j : Fin 1024) :
    V m c main_call0_v12 (ix3 k j 0 : S8x1024x1.Idx) = sqn (fun d => argC m c (ix3 k j d)) := by
  have e : V m c main_call0_v12 = broadcastInDim S8x1024x1 ![0, 1] bcast_S8x1024_S8x1024x1_0_1
      (Host.reduceAdd (F := Ideal) (mulf (F := Ideal) (φ := .f32) (argC m c) (argC m c)) (constant S_ .f32 0x00000000#32) reducesTo_S8x1024x256_S8x1024_d2 h_S_) := by
    unfold V V0
    simp only [List.flatten_cons, List.flatten_nil, List.append_nil]
    after_results
    try rfl
  rw [e]
  have e2 : broadcastInDim S8x1024x1 ![0, 1] bcast_S8x1024_S8x1024x1_0_1
      (Host.reduceAdd (F := Ideal) (mulf (F := Ideal) (φ := .f32) (argC m c) (argC m c)) (constant S_ .f32 0x00000000#32) reducesTo_S8x1024x256_S8x1024_d2 h_S_) (ix3 k j 0 : S8x1024x1.Idx)
      = Host.reduceAdd (F := Ideal) (mulf (F := Ideal) (φ := .f32) (argC m c) (argC m c)) (constant S_ .f32 0x00000000#32) reducesTo_S8x1024x256_S8x1024_d2 h_S_ (ix2 k j : S8x1024.Idx) := by
    unfold broadcastInDim
    congr 1
    funext a; match a with | ⟨0, _⟩ => rfl | ⟨1, _⟩ => rfl
  exact e2.trans (sum_rows (argC m c) k j)

/-! ## The blocks -/

theorem index_0 : ∀ t : Fin cfg0.N, win0_0.index t = ![t.val / 4, 0, t.val % 4] :=
  (by decide +kernel : ∀ t : Fin grid0.N, win0_0.index t = ![t.val / 4, 0, t.val % 4])

theorem lt_N (t : Fin cfg0.N) : t.val < 64 := Nat.lt_of_lt_of_eq t.isLt N_0

/-- The input's block at point `t`: 512 columns of one batch entry. -/
theorem iblk0 (c : Dev nD) (t : Fin cfg0.N) (d : Fin 256) (l : Fin 512) :
    iblk m c 0 t (ix3 0 d l : S1x256x512.Idx)
      = argX m c (ix3 ⟨t.val / 4, by have := lt_N t; omega⟩ d ⟨512 * (t.val % 4) + l.val, by have := l.isLt; omega⟩) := by
  unfold iblk
  rw [View.read_apply]
  show V m c main_arg0 _ = _
  rw [V_main_arg0]
  show argX m c _ = argX m c _
  congr 1
  funext a; apply Fin.ext
  match a with
  | ⟨0, _⟩ => show win0_0.index t 0 * 1 + 1 * 0 = t.val / 4; rw [index_0]; show t.val / 4 * 1 + 1 * 0 = _; omega
  | ⟨1, _⟩ => show win0_0.index t 1 * 256 + 1 * d.val = d.val; rw [index_0]; show 0 * 256 + 1 * d.val = _; omega
  | ⟨2, _⟩ => show win0_0.index t 2 * 512 + 1 * l.val = 512 * (t.val % 4) + l.val; rw [index_0]; show t.val % 4 * 512 + 1 * l.val = _; omega

theorem iblk1 (c : Dev nD) (t : Fin cfg0.N) (i : S8x1024x256.Idx) : iblk m c 1 t i = V m c main_arg1 i := by
  unfold iblk
  rw [View.read_apply]
  show V m c main_arg1 _ = _
  congr 1
  funext a; apply Fin.ext
  match a with
  | ⟨0, _⟩ => show 0 * 8 + 1 * (i 0).val = (i 0).val; omega
  | ⟨1, _⟩ => show 0 * 1024 + 1 * (i 1).val = (i 1).val; omega
  | ⟨2, _⟩ => show 0 * 256 + 1 * (i 2).val = (i 2).val; omega

theorem iblk2 (c : Dev nD) (t : Fin cfg0.N) (i : S8x256x1024.Idx) : iblk m c 2 t i = V m c main_call0_v7 i := by
  unfold iblk
  rw [View.read_apply]
  show V m c main_call0_v7 _ = _
  congr 1
  funext a; apply Fin.ext
  match a with
  | ⟨0, _⟩ => show 0 * 8 + 1 * (i 0).val = (i 0).val; omega
  | ⟨1, _⟩ => show 0 * 256 + 1 * (i 1).val = (i 1).val; omega
  | ⟨2, _⟩ => show 0 * 1024 + 1 * (i 2).val = (i 2).val; omega

theorem iblk3 (c : Dev nD) (t : Fin cfg0.N) (i : S8x256x1024.Idx) : iblk m c 3 t i = V m c main_call0_v8 i := by
  unfold iblk
  rw [View.read_apply]
  show V m c main_call0_v8 _ = _
  congr 1
  funext a; apply Fin.ext
  match a with
  | ⟨0, _⟩ => show 0 * 8 + 1 * (i 0).val = (i 0).val; omega
  | ⟨1, _⟩ => show 0 * 256 + 1 * (i 1).val = (i 1).val; omega
  | ⟨2, _⟩ => show 0 * 1024 + 1 * (i 2).val = (i 2).val; omega

theorem iblk4 (c : Dev nD) (t : Fin cfg0.N) (i : S8x256x1024.Idx) : iblk m c 4 t i = V m c main_call0_v9 i := by
  unfold iblk
  rw [View.read_apply]
  show V m c main_call0_v9 _ = _
  congr 1
  funext a; apply Fin.ext
  match a with
  | ⟨0, _⟩ => show 0 * 8 + 1 * (i 0).val = (i 0).val; omega
  | ⟨1, _⟩ => show 0 * 256 + 1 * (i 1).val = (i 1).val; omega
  | ⟨2, _⟩ => show 0 * 1024 + 1 * (i 2).val = (i 2).val; omega

theorem iblk5 (c : Dev nD) (t : Fin cfg0.N) (i : S8x1024x1.Idx) : iblk m c 5 t i = V m c main_call0_v12 i := by
  unfold iblk
  rw [View.read_apply]
  show V m c main_call0_v12 _ = _
  congr 1
  funext a; apply Fin.ext
  match a with
  | ⟨0, _⟩ => show 0 * 8 + 1 * (i 0).val = (i 0).val; omega
  | ⟨1, _⟩ => show 0 * 1024 + 1 * (i 1).val = (i 1).val; omega
  | ⟨2, _⟩ => show 0 * 1 + 1 * (i 2).val = (i 2).val; omega

/-- What point `t` reads of the quantizers. -/
abbrev slabsAt (c : Dev nD) (t : Fin cfg0.N) : ℕ → Slab Ideal :=
  slabs (iblk m c 1 t) (iblk m c 2 t) (iblk m c 3 t) (iblk m c 4 t) (iblk m c 5 t)

/-- With real codebooks, what a point reads of quantizer `k` is codebook `k`. -/
theorem isSlab (c : Dev nD) (h : ∀ i, Fin' (argC m c i)) (t : Fin cfg0.N) (k : ℕ) : IsSlab (slabsAt m c t k) (book (argC m c) k) where
  cb j d := by
    show iblk m c 1 t (ix3 _ j d : S8x1024x256.Idx) = _
    rw [iblk1, V_main_arg1]; rfl
  c2 j := by
    show iblk m c 5 t (ix3 _ j 0 : S8x1024x1.Idx) = _
    rw [iblk5, V_c2]; rfl
  hi d j := by
    show iblk m c 2 t (ix3 _ d j : S8x256x1024.Idx) = _
    rw [iblk2, V_hi]; rfl
  mid d j := by
    show iblk m c 3 t (ix3 _ d j : S8x256x1024.Idx) = _
    rw [iblk3, V_mid, EReal.sub_self (h _).1 (h _).2]
  lo d j := by
    show iblk m c 4 t (ix3 _ d j : S8x256x1024.Idx) = _
    rw [iblk4, V_lo, EReal.sub_self (h _).1 (h _).2, sub_zero]

/-- The columns of point `t`'s block. -/
theorem col_iblk (c : Dev nD) (t : Fin cfg0.N) (l : Fin 512) :
    (fun d => iblk m c 0 t (ix3 0 d l : S1x256x512.Idx))
      = column (argX m c) ⟨t.val / 4, by have := lt_N t; omega⟩ ⟨512 * (t.val % 4) + l.val, by have := l.isLt; omega⟩ :=
  funext fun d => iblk0 m c t d l

end Cert.Rvq.K
-- ==== Proof.KOut.lean ====
/- WHAT THE KERNEL'S BODY LEAVES, IN TERMS OF THE QUANTIZER. The generated run found the pieces that the body stores; they
   are the stores of `KStep.lean`'s chain: one row of codes and one column of sums of squares per quantizer, and the block
   of the result at the end. -/
module

public import proofs.«01_k».proof.Proof.KStep
public import proofs.«01_k».proof.Proof.Gen.KernelIdeal.Frame
public import Idealize.ShloMosaic.Lib.Pipeline.Value
public import Idealize.ShloMosaic.Lib.Pipeline.ValueKit.Tiles

@[expose] public section

set_option maxRecDepth 16384

noncomputable section

namespace Cert.Rvq.K

open Cert.KernelIdeal Cert.KernelIdeal.Gen
open Idealize.ShloMosaic Idealize.ShloMosaic.TcCoe Idealize.SL.Sem
open Idealize.ShloMosaic.Pipeline (Dat)

variable {F : FTy → Type} [FloatOps F]

/-- A slab of a stack of eight lies in it. -/
theorem slab_inb {a b : ℕ} (k : ℕ) (h : k < 8) (x : Fin 3) :
    (![k, 0, 0] : Fin 3 → ℕ) x + (![1, a, b] : Fin 3 → ℕ) x ≤ (![8, a, b] : Fin 3 → ℕ) x := by
  fin_cases x
  · show k + 1 ≤ 8; omega
  · show 0 + a ≤ a; omega
  · show 0 + b ≤ b; omega

/-- A row of the block of codes lies in it. -/
theorem row_inb (k : ℕ) (h : k < 8) (x : Fin 3) :
    (![0, k, 0] : Fin 3 → ℕ) x + S1x1x512.size x ≤ S1x8x512.size x := by
  fin_cases x
  · show 0 + 1 ≤ 1; omega
  · show k + 1 ≤ 8; omega
  · show 0 + 512 ≤ 512; omega

/-- A column of the sums of squares lies in them. -/
theorem col_inb (k : ℕ) (h : k < 8) (x : Fin 2) :
    (![0, k] : Fin 2 → ℕ) x + S256x1.size x ≤ S256x8.size x := by
  fin_cases x
  · show 0 + 256 ≤ 256; omega
  · show k + 1 ≤ 8; omega

/-- Row `k` of a block of codes. -/
abbrev rowRect (k : ℕ) (h : k < 8) : Rect S1x8x512 := Rect.unit (s := S1x8x512) ![0, k, 0] S1x1x512.size (row_inb k h)

/-- Column `k` of the sums of squares. -/
abbrev colRect (k : ℕ) (h : k < 8) : Rect S256x8 := Rect.unit (s := S256x8) ![0, k] S256x1.size (col_inb k h)

/-- A load of slab `k` reads slab `k`. -/
theorem readAt_slab {sig : RefSig} {κ : Kind} {sp : Space} {a b : ℕ} {e : EltTy} (v : View sig κ sp (⟨3, ![8, a, b]⟩ : Shape) e)
    (f : v.ty.Contents (Elt F)) (k : ℕ) (inb : ∀ x, (![k, 0, 0] : Fin 3 → ℕ) x + (![1, a, b] : Fin 3 → ℕ) x ≤ (⟨3, ![8, a, b]⟩ : Shape).size x) :
    v.readAt (Elt F) (Rect.unit (s := (⟨3, ![8, a, b]⟩ : Shape)) ![k, 0, 0] ![1, a, b] inb).toLoadRect f = slab (v.read (Elt F) f) k := by
  funext i
  rw [View.readAt_eq_ld]
  refine View.ld_unit_apply_of _ _ _ _ _ _ fun x => ?_
  have hk : k + 1 ≤ 8 := inb 0
  have h0 : (i 0 : ℕ) < 1 := (i 0).isLt
  fin_cases x
  · show k % 8 = k + (i 0 : ℕ); omega
  · show (i 1 : ℕ) = 0 + (i 1 : ℕ); omega
  · show (i 2 : ℕ) = 0 + (i 2 : ℕ); omega

/-- A load of column `k` reads column `k`. -/
theorem readAt_col {sig : RefSig} {κ : Kind} {sp : Space} (v : View sig κ sp S256x8 .f32)
    (f : v.ty.Contents (Elt F)) (k : ℕ) (inb : ∀ x, (![0, k] : Fin 2 → ℕ) x + (![256, 1] : Fin 2 → ℕ) x ≤ S256x8.size x) :
    v.readAt (Elt F) (Rect.unit (s := S256x8) ![0, k] ![256, 1] inb).toLoadRect f = colAt (v.read (Elt F) f) k := by
  funext i
  rw [View.readAt_eq_ld]
  refine View.ld_unit_apply_of _ _ _ _ _ _ fun x => ?_
  have hk : k + 1 ≤ 8 := inb 1
  have h0 : (i 1 : ℕ) < 1 := (i 1).isLt
  fin_cases x
  · show (i 0 : ℕ) = 0 + (i 0 : ℕ); omega
  · show k % 8 = k + (i 1 : ℕ); omega

/-- A load of the whole block of columns reads it. -/
theorem readAt_whole {sig : RefSig} {κ : Kind} {sp : Space} (v : View sig κ sp S1x256x512 .f32)
    (f : v.ty.Contents (Elt F)) (inb : ∀ x, (![0, 0, 0] : Fin 3 → ℕ) x + (![1, 256, 512] : Fin 3 → ℕ) x ≤ S1x256x512.size x) :
    v.readAt (Elt F) (Rect.unit (s := S1x256x512) ![0, 0, 0] ![1, 256, 512] inb).toLoadRect f = v.read (Elt F) f := by
  rw [View.readAt_eq_ld]
  exact View.ld_unit_zero (S := S1x256x512) (by funext a; fin_cases a <;> rfl) _ _

variable (X : Vec F S1x256x512 .f32) (P : ℕ → Slab F)

/-- The first `k` rows of codes, as stored. -/
def rows : (k : ℕ) → k ≤ 8 → List (View.Piece (Elt F) S1x8x512 .i32)
  | 0, _ => []
  | k + 1, h => ⟨rowRect k h, kRow (kCode X P k)⟩ :: rows k (Nat.le_of_succ_le h)

/-- The first `k` columns of sums of squares, each added to what `old` has, as stored after `L`. -/
def cols (L : List (View.Piece (Elt F) S256x8 .f32)) (old : ℕ → Vec F S256x1 .f32) : (k : ℕ) → k ≤ 8 → List (View.Piece (Elt F) S256x8 .f32)
  | 0, _ => L
  | k + 1, h => ⟨colRect k h, kSq (kDk X P k) (old k)⟩ :: cols L old k (Nat.le_of_succ_le h)

variable (c : Dev nD) (i : grid0.Coords) (arg2 : Memref sig .tc .vmem S1x256x512 .f32) (harg2 : arg2.IsWhole) (arg3 : Memref sig .tc .vmem S8x1024x256 .f32) (harg3 : arg3.IsWhole) (arg4 : Memref sig .tc .vmem S8x256x1024 .bf16) (harg4 : arg4.IsWhole) (arg5 : Memref sig .tc .vmem S8x256x1024 .bf16) (harg5 : arg5.IsWhole) (arg6 : Memref sig .tc .vmem S8x256x1024 .bf16) (harg6 : arg6.IsWhole) (arg7 : Memref sig .tc .vmem S8x1024x1 .f32) (harg7 : arg7.IsWhole) (arg8 : Memref sig .tc .vmem S1x256x512 .f32) (harg8 : arg8.IsWhole) (arg9 : Memref sig .tc .vmem S1x8x512 .i32) (harg9 : arg9.IsWhole) (arg10 : Memref sig .tc .vmem S256x8 .f32) (harg10 : arg10.IsWhole)
    (x0 : Vec F S1x256x512 .f32) (x1 : Vec F S8x1024x256 .f32) (x2 : Vec F S8x256x1024 .bf16) (x3 : Vec F S8x256x1024 .bf16) (x4 : Vec F S8x256x1024 .bf16) (x5 : Vec F S8x1024x1 .f32) (xo8 : Vec F S256x8 .f32)

/-- A load of column `k` after a store of another column reads what was there before. -/
theorem readCov_col_skip {sig : RefSig} {κ : Kind} {sp : Space} (v : View sig κ sp S256x8 .f32) (j k : ℕ)
    (inbj : ∀ x, (![0, j] : Fin 2 → ℕ) x + (![256, 1] : Fin 2 → ℕ) x ≤ S256x8.size x)
    (inb : ∀ x, (![0, k] : Fin 2 → ℕ) x + (![256, 1] : Fin 2 → ℕ) x ≤ S256x8.size x)
    (w : Vec F S256x1 .f32) (L : List (View.Piece (Elt F) S256x8 .f32)) (h : j ≠ k) :
    v.readCov (⟨Rect.unit (s := S256x8) ![0, j] ![256, 1] inbj, w⟩ :: L) (Rect.unit (s := S256x8) ![0, k] ![256, 1] inb).toLoadRect
      = v.readCov L (Rect.unit (s := S256x8) ![0, k] ![256, 1] inb).toLoadRect := by
  refine View.readCov_cons_of_disjoint v _ L _ (Finset.disjoint_left.mpr fun y hy hy' => h ?_)
  have h1 := Rect.mem_set_unit.mp (show y ∈ (Rect.unit (s := S256x8) ![0, j] ![256, 1] inbj).set from hy) 1
  have h2 := Rect.mem_set_unit.mp (show y ∈ (Rect.unit (s := S256x8) ![0, k] ![256, 1] inb).set from hy') 1
  have h3 : j ≤ (y 1 : ℕ) ∧ (y 1 : ℕ) < j + 1 := h1
  have h4 : k ≤ (y 1 : ℕ) ∧ (y 1 : ℕ) < k + 1 := h2
  omega

/-- The block of zeros that the first point starts from. -/
def zeros : FVec F S256x8 .f32 := broadcast S256x8 (Scalar.ofBits .f32 0x00000000#32)

/-- The store of it. -/
def zeroPiece : View.Piece (Elt F) S256x8 .f32 := ⟨Rect.unit (s := S256x8) ![0, 0] ![256, 8] inb_S256x8_S256x8_0_0, zeros⟩

/-- A load of column `k` after the store of a whole block reads the block's column. -/
theorem readCov_col_whole {sig : RefSig} {κ : Kind} {sp : Space} (v : View sig κ sp S256x8 .f32) (k : ℕ)
    (inb0 : ∀ x, (![0, 0] : Fin 2 → ℕ) x + (![256, 8] : Fin 2 → ℕ) x ≤ S256x8.size x)
    (inb : ∀ x, (![0, k] : Fin 2 → ℕ) x + (![256, 1] : Fin 2 → ℕ) x ≤ S256x8.size x)
    (w : Vec F S256x8 .f32) :
    v.readCov [⟨Rect.unit (s := S256x8) ![0, 0] ![256, 8] inb0, w⟩] (Rect.unit (s := S256x8) ![0, k] ![256, 1] inb).toLoadRect = colAt w k := by
  rw [View.readCov_eq_canon']
  funext i
  rw [View.canon_unit_zero (S := S256x8) (by funext a; fin_cases a <;> rfl)]
  exact View.ld_unit_apply_of w _ _ inb i _ fun x => by
    have hk : k + 1 ≤ 8 := inb 1
    have h0 : (i 1 : ℕ) < 1 := (i 1).isLt
    fin_cases x
    · show (i 0 : ℕ) = 0 + (i 0 : ℕ); omega
    · show k % 8 = k + (i 1 : ℕ); omega

set_option maxHeartbeats 2000000 in
/-- At the first point: the block of the result is stored once, the codes row by row, the sums of squares column by column. -/
theorem pieces_A (hc0 : cond0_0 i) :
    (kernelRun0_A c i arg2 harg2 arg3 harg3 arg4 harg4 arg5 harg5 arg6 harg6 arg7 harg7 arg8 harg8 arg9 harg9 arg10 harg10 hc0 x0 x1 x2 x3 x4 x5).1 = [⟨Rect.unit (s := S1x256x512) ![0, 0, 0] ![1, 256, 512] inb_S1x256x512_S1x256x512_0_0_0, kQuant x0 (slabs x1 x2 x3 x4 x5)⟩]
    ∧ (kernelRun0_A c i arg2 harg2 arg3 harg3 arg4 harg4 arg5 harg5 arg6 harg6 arg7 harg7 arg8 harg8 arg9 harg9 arg10 harg10 hc0 x0 x1 x2 x3 x4 x5).2.1 = rows x0 (slabs x1 x2 x3 x4 x5) 8 le_rfl
    ∧ (kernelRun0_A c i arg2 harg2 arg3 harg3 arg4 harg4 arg5 harg5 arg6 harg6 arg7 harg7 arg8 harg8 arg9 harg9 arg10 harg10 hc0 x0 x1 x2 x3 x4 x5).2.2.1 = cols x0 (slabs x1 x2 x3 x4 x5) [zeroPiece] (colAt zeros) 8 le_rfl := by
  unfold kernelRun0_A
  dsimp only
  sl_unfold_words
  refine ⟨?_, ?_, ?_⟩ <;>
  simp (config := { decide := true }) only [readAt_slab, readAt_col, readAt_whole, harg2.read_unread, harg3.read_unread, harg4.read_unread, harg5.read_unread,
    harg6.read_unread, harg7.read_unread, harg10.read_unread, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57,
    rows, cols, kQuant, kDk, kCode, kRow, kSq, kR, kNext, kD, kDiff, kPart, kOne, kIdx, kDist, kRows, slabs, readCov_col_whole, readCov_col_skip, zeroPiece, zeros]

set_option maxHeartbeats 2000000 in
/-- At the later points: the block of the result is stored once, the codes row by row, the sums of squares column by column. -/
theorem pieces_B (hc0 : ¬cond0_0 i) :
    (kernelRun0_B c i arg2 harg2 arg3 harg3 arg4 harg4 arg5 harg5 arg6 harg6 arg7 harg7 arg8 harg8 arg9 harg9 arg10 harg10 hc0 x0 x1 x2 x3 x4 x5 xo8).1 = [⟨Rect.unit (s := S1x256x512) ![0, 0, 0] ![1, 256, 512] inb_S1x256x512_S1x256x512_0_0_0, kQuant x0 (slabs x1 x2 x3 x4 x5)⟩]
    ∧ (kernelRun0_B c i arg2 harg2 arg3 harg3 arg4 harg4 arg5 harg5 arg6 harg6 arg7 harg7 arg8 harg8 arg9 harg9 arg10 harg10 hc0 x0 x1 x2 x3 x4 x5 xo8).2.1 = rows x0 (slabs x1 x2 x3 x4 x5) 8 le_rfl
    ∧ (kernelRun0_B c i arg2 harg2 arg3 harg3 arg4 harg4 arg5 harg5 arg6 harg6 arg7 harg7 arg8 harg8 arg9 harg9 arg10 harg10 hc0 x0 x1 x2 x3 x4 x5 xo8).2.2.1 = cols x0 (slabs x1 x2 x3 x4 x5) [] (colAt xo8) 8 le_rfl := by
  unfold kernelRun0_B
  dsimp only
  sl_unfold_words
  refine ⟨?_, ?_, ?_⟩ <;>
  simp (config := { decide := true }) only [readAt_slab, readAt_col, readAt_whole, harg2.read_unread, harg3.read_unread, harg4.read_unread, harg5.read_unread,
    harg6.read_unread, harg7.read_unread, harg10.read_unread, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57,
    rows, cols, kQuant, kDk, kCode, kRow, kSq, kR, kNext, kD, kDiff, kPart, kOne, kIdx, kDist, kRows, slabs]

end Cert.Rvq.K
-- ==== Proof.KOutAt.lean ====
/- THE BODY'S RESULTS, READ AT AN INDEX. Each output's staging buffer after the body: the block of the result, the codes
   of each quantizer, the sums of squares of each quantizer on top of what the buffer had. -/
module

public import proofs.«01_k».proof.Proof.KOut

@[expose] public section

set_option maxRecDepth 16384

noncomputable section

namespace Cert.Rvq.K

open Cert.KernelIdeal Cert.KernelIdeal.Gen
open Idealize.ShloMosaic Idealize.ShloMosaic.TcCoe Idealize.SL.Sem
open Idealize.ShloMosaic.ValueIdx

variable {F : FTy → Type} [FloatOps F]
variable (X : Vec F S1x256x512 .f32) (P : ℕ → Slab F)

/-- The rows of codes read back. -/
theorem canon_rows (n : Fin 8) (l : Fin 512) : ∀ (k : ℕ) (h : k ≤ 8), n.val < k →
    View.canon (rows X P k h) (ix3 0 n l : S1x8x512.Idx) = kRow (kCode X P n.val) (ix3 0 0 l : S1x1x512.Idx)
  | 0, _, hn => absurd hn (Nat.not_lt_zero _)
  | k + 1, h, hn => by
    by_cases hk : n.val = k
    · subst hk
      have e : (ix3 0 n l : S1x8x512.Idx) = (rowRect n.val h).emb (ix3 0 0 l : S1x1x512.Idx) := by
        funext a; apply Fin.ext; rw [Rect.emb_apply]
        match a with
        | ⟨0, _⟩ => show 0 = 0 + 1 * 0; omega
        | ⟨1, _⟩ => show n.val = n.val + 1 * 0; omega
        | ⟨2, _⟩ => show l.val = 0 + 1 * l.val; omega
      rw [e]
      exact View.canon_cons_emb (rowRect n.val h) _ _ _
    · refine (View.canon_cons_of_not_mem _ _ fun hm => hk ?_).trans (canon_rows n l k (Nat.le_of_succ_le h) (by omega))
      have h1 := (Rect.mem_set_unit.mp (show (ix3 0 n l : S1x8x512.Idx) ∈ (Rect.unit (s := S1x8x512) ![0, k, 0] S1x1x512.size (row_inb k h)).set from hm)) 1
      have h2 : k ≤ n.val ∧ n.val < k + 1 := h1
      omega

/-- The columns of sums of squares read back. -/
theorem canon_cols (L : List (View.Piece (Elt F) S256x8 .f32)) (old : ℕ → Vec F S256x1 .f32) (n : Fin 8) (d : Fin 256) :
    ∀ (k : ℕ) (h : k ≤ 8), n.val < k →
    View.canon (cols X P L old k h) (ix2 d n : S256x8.Idx) = kSq (kDk X P n.val) (old n.val) (ix2 d 0 : S256x1.Idx)
  | 0, _, hn => absurd hn (Nat.not_lt_zero _)
  | k + 1, h, hn => by
    by_cases hk : n.val = k
    · subst hk
      have e : (ix2 d n : S256x8.Idx) = (colRect n.val h).emb (ix2 d 0 : S256x1.Idx) := by
        funext a; apply Fin.ext; rw [Rect.emb_apply]
        match a with
        | ⟨0, _⟩ => show d.val = 0 + 1 * d.val; omega
        | ⟨1, _⟩ => show n.val = n.val + 1 * 0; omega
      rw [e]
      exact View.canon_cons_emb (colRect n.val h) _ _ _
    · refine (View.canon_cons_of_not_mem _ _ fun hm => hk ?_).trans (canon_cols L old n d k (Nat.le_of_succ_le h) (by omega))
      have h1 := (Rect.mem_set_unit.mp (show (ix2 d n : S256x8.Idx) ∈ (Rect.unit (s := S256x8) ![0, k] S256x1.size (col_inb k h)).set from hm)) 1
      have h2 : k ≤ n.val ∧ n.val < k + 1 := h1
      omega

theorem hz3 : (![0, 0, 0] : Fin 3 → ℕ) = fun _ => 0 := funext fun a => by fin_cases a <;> rfl

variable (c : Dev nD) (i : grid0.Coords) (arg2 : Memref sig .tc .vmem S1x256x512 .f32) (harg2 : arg2.IsWhole) (arg3 : Memref sig .tc .vmem S8x1024x256 .f32) (harg3 : arg3.IsWhole) (arg4 : Memref sig .tc .vmem S8x256x1024 .bf16) (harg4 : arg4.IsWhole) (arg5 : Memref sig .tc .vmem S8x256x1024 .bf16) (harg5 : arg5.IsWhole) (arg6 : Memref sig .tc .vmem S8x256x1024 .bf16) (harg6 : arg6.IsWhole) (arg7 : Memref sig .tc .vmem S8x1024x1 .f32) (harg7 : arg7.IsWhole) (arg8 : Memref sig .tc .vmem S1x256x512 .f32) (harg8 : arg8.IsWhole) (arg9 : Memref sig .tc .vmem S1x8x512 .i32) (harg9 : arg9.IsWhole) (arg10 : Memref sig .tc .vmem S256x8 .f32) (harg10 : arg10.IsWhole)
    (x0 : Vec F S1x256x512 .f32) (x1 : Vec F S8x1024x256 .f32) (x2 : Vec F S8x256x1024 .bf16) (x3 : Vec F S8x256x1024 .bf16) (x4 : Vec F S8x256x1024 .bf16) (x5 : Vec F S8x1024x1 .f32) (xo8 : Vec F S256x8 .f32)

theorem outA6 (hc0 : cond0_0 i) :
    out0_A_6 c i arg2 harg2 arg3 harg3 arg4 harg4 arg5 harg5 arg6 harg6 arg7 harg7 arg8 harg8 arg9 harg9 arg10 harg10 hc0 x0 x1 x2 x3 x4 x5
      = kQuant x0 (slabs x1 x2 x3 x4 x5) := by
  unfold out0_A_6
  rw [View.read_writes_junk_eq_canon, (pieces_A c i arg2 harg2 arg3 harg3 arg4 harg4 arg5 harg5 arg6 harg6 arg7 harg7 arg8 harg8 arg9 harg9 arg10 harg10 x0 x1 x2 x3 x4 x5 hc0).1]
  exact View.canon_unit_zero (S := S1x256x512) hz3 _ _

theorem outB6 (hc0 : ¬cond0_0 i) :
    out0_B_6 c i arg2 harg2 arg3 harg3 arg4 harg4 arg5 harg5 arg6 harg6 arg7 harg7 arg8 harg8 arg9 harg9 arg10 harg10 hc0 x0 x1 x2 x3 x4 x5 xo8
      = kQuant x0 (slabs x1 x2 x3 x4 x5) := by
  unfold out0_B_6
  rw [View.read_writes_junk_eq_canon, (pieces_B c i arg2 harg2 arg3 harg3 arg4 harg4 arg5 harg5 arg6 harg6 arg7 harg7 arg8 harg8 arg9 harg9 arg10 harg10 x0 x1 x2 x3 x4 x5 xo8 hc0).1]
  exact View.canon_unit_zero (S := S1x256x512) hz3 _ _

theorem outA7 (hc0 : cond0_0 i) (n : Fin 8) (l : Fin 512) :
    out0_A_7 c i arg2 harg2 arg3 harg3 arg4 harg4 arg5 harg5 arg6 harg6 arg7 harg7 arg8 harg8 arg9 harg9 arg10 harg10 hc0 x0 x1 x2 x3 x4 x5 (ix3 0 n l : S1x8x512.Idx)
      = kRow (kCode x0 (slabs x1 x2 x3 x4 x5) n.val) (ix3 0 0 l : S1x1x512.Idx) := by
  unfold out0_A_7
  rw [View.read_writes_junk_eq_canon, (pieces_A c i arg2 harg2 arg3 harg3 arg4 harg4 arg5 harg5 arg6 harg6 arg7 harg7 arg8 harg8 arg9 harg9 arg10 harg10 x0 x1 x2 x3 x4 x5 hc0).2.1]
  exact canon_rows _ _ n l 8 le_rfl n.isLt

theorem outB7 (hc0 : ¬cond0_0 i) (n : Fin 8) (l : Fin 512) :
    out0_B_7 c i arg2 harg2 arg3 harg3 arg4 harg4 arg5 harg5 arg6 harg6 arg7 harg7 arg8 harg8 arg9 harg9 arg10 harg10 hc0 x0 x1 x2 x3 x4 x5 xo8 (ix3 0 n l : S1x8x512.Idx)
      = kRow (kCode x0 (slabs x1 x2 x3 x4 x5) n.val) (ix3 0 0 l : S1x1x512.Idx) := by
  unfold out0_B_7
  rw [View.read_writes_junk_eq_canon, (pieces_B c i arg2 harg2 arg3 harg3 arg4 harg4 arg5 harg5 arg6 harg6 arg7 harg7 arg8 harg8 arg9 harg9 arg10 harg10 x0 x1 x2 x3 x4 x5 xo8 hc0).2.1]
  exact canon_rows _ _ n l 8 le_rfl n.isLt

theorem outA8 (hc0 : cond0_0 i) (d : Fin 256) (n : Fin 8) :
    out0_A_8 c i arg2 harg2 arg3 harg3 arg4 harg4 arg5 harg5 arg6 harg6 arg7 harg7 arg8 harg8 arg9 harg9 arg10 harg10 hc0 x0 x1 x2 x3 x4 x5 (ix2 d n : S256x8.Idx)
      = kSq (kDk x0 (slabs x1 x2 x3 x4 x5) n.val) (colAt zeros n.val) (ix2 d 0 : S256x1.Idx) := by
  unfold out0_A_8
  rw [View.read_writes_junk_eq_canon, (pieces_A c i arg2 harg2 arg3 harg3 arg4 harg4 arg5 harg5 arg6 harg6 arg7 harg7 arg8 harg8 arg9 harg9 arg10 harg10 x0 x1 x2 x3 x4 x5 hc0).2.2]
  exact canon_cols _ _ _ _ n d 8 le_rfl n.isLt

theorem outB8 (hc0 : ¬cond0_0 i) (d : Fin 256) (n : Fin 8) :
    out0_B_8 c i arg2 harg2 arg3 harg3 arg4 harg4 arg5 harg5 arg6 harg6 arg7 harg7 arg8 harg8 arg9 harg9 arg10 harg10 hc0 x0 x1 x2 x3 x4 x5 xo8 (ix2 d n : S256x8.Idx)
      = kSq (kDk x0 (slabs x1 x2 x3 x4 x5) n.val) (colAt xo8 n.val) (ix2 d 0 : S256x1.Idx) := by
  unfold out0_B_8
  rw [View.read_writes_junk_eq_canon, (pieces_B c i arg2 harg2 arg3 harg3 arg4 harg4 arg5 harg5 arg6 harg6 arg7 harg7 arg8 harg8 arg9 harg9 arg10 harg10 x0 x1 x2 x3 x4 x5 xo8 hc0).2.2]
  exact canon_cols _ _ _ _ n d 8 le_rfl n.isLt

end Cert.Rvq.K
-- ==== Proof.KArr.lean ====
/- THE ARRAYS AFTER THE LAUNCH. The result, the codes and the sums of squares, each as one function of the input and the
   codebooks: the point that writes a block writes the function's block, and the blocks tile the array. -/
module

public import proofs.«01_k».proof.Proof.KWin
public import proofs.«01_k».proof.Proof.KOutAt

@[expose] public section

set_option maxRecDepth 16384

noncomputable section

namespace Cert.Rvq.K

open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ)

/-- The codes as the kernel lays them out: batch entry, quantizer, column. -/
def codesTOf (X : S16x256x2048.Idx → EReal) (C : S8x1024x256.Idx → EReal) : S16x8x2048.Idx → BitVec 32 :=
  fun i => word (code (book C) (column X (i 0) (i 2)) (i 1).val)

/-- The sums of squares over all points. -/
def ssqOf (X : S16x256x2048.Idx → EReal) (C : S8x1024x256.Idx → EReal) : S256x8.Idx → EReal :=
  fun i => ∑ t ∈ Finset.range 64, sqPoint X C (i 1).val (i 0) t

/-! ## What the body leaves at a point -/

theorem outs6 (c : Dev nD) (t : Fin cfg0.N) :
    (outsAt0 m c t.val t.isLt).1 = kQuant (iblk m c 0 t) (slabsAt m c t) := by
  by_cases h0 : t.val % 64 = 0
  · rw [outsAt0_A m c t h0]; dsimp only; exact outA6 (F := Ideal) ..
  · rw [outsAt0_B m c t h0]; dsimp only; exact outB6 (F := Ideal) ..

theorem outs7 (c : Dev nD) (t : Fin cfg0.N) (n : Fin 8) (l : Fin 512) :
    (outsAt0 m c t.val t.isLt).2.1 (ix3 0 n l : S1x8x512.Idx) = kCode (iblk m c 0 t) (slabsAt m c t) n.val (ix2 0 l : S1x512.Idx) := by
  refine Eq.trans ?_ (kRow_apply (kCode (iblk m c 0 t) (slabsAt m c t) n.val) l)
  by_cases h0 : t.val % 64 = 0
  · rw [outsAt0_A m c t h0]; dsimp only; exact outA7 (F := Ideal) ..
  · rw [outsAt0_B m c t h0]; dsimp only; exact outB7 (F := Ideal) ..

theorem zeros_apply (i : S256x8.Idx) : zeros (F := Ideal) i = 0 := Ideal.ofBits_zero_f32

theorem colAt_apply {α : Type} (x : S256x8.Idx → α) (d : Fin 256) (n : Fin 8) : colAt x n.val (ix2 d 0 : S256x1.Idx) = x (ix2 d n) := by
  unfold colAt
  congr 1
  funext a
  match a with
  | ⟨0, _⟩ => rfl
  | ⟨1, _⟩ => exact Fin.ext (Nat.mod_eq_of_lt n.isLt)

/-- One point adds its block's sum of squares. -/
theorem kSq_point (c : Dev nD) (h : ∀ i, Fin' (argC m c i)) (t : Fin cfg0.N) (old : Vec Ideal S256x8 .f32) (d : Fin 256) (n : Fin 8) :
    kSq (kDk (iblk m c 0 t) (slabsAt m c t) n.val) (colAt old n.val) (ix2 d 0 : S256x1.Idx)
      = old (ix2 d n) + sqPoint (argX m c) (argC m c) n.val d t.val := by
  rw [kSq_apply (isSlab m c h t), colAt_apply]
  refine congrArg (old (ix2 d n) + ·) (Finset.sum_congr rfl fun l _ => ?_)
  rw [col_iblk]
  have e : (⟨t.val / 4 % 16, Nat.mod_lt _ (by decide)⟩ : Fin 16) = ⟨t.val / 4, by have := lt_N t; omega⟩ :=
    Fin.ext (Nat.mod_eq_of_lt (by have := lt_N t; omega))
  unfold sqDiff
  rw [e]

theorem outs8 (c : Dev nD) (h : ∀ i, Fin' (argC m c i)) (d : Fin 256) (n : Fin 8) : ∀ (k : ℕ) (hk : k < cfg0.N),
    (outsAt0 m c k hk).2.2 (ix2 d n : S256x8.Idx) = ∑ t ∈ Finset.range (k + 1), sqPoint (argX m c) (argC m c) n.val d t
  | 0, hk => by
    rw [outsAt0_A m c ⟨0, hk⟩ rfl]
    dsimp only
    refine (outA8 (F := Ideal) ..).trans ?_
    rw [kSq_point m c h, zeros_apply]; simp
  | k + 1, hk => by
    have hN : k + 1 < 64 := Nat.lt_of_lt_of_eq hk N_0
    have hB : ¬(⟨k + 1, hk⟩ : Fin cfg0.N).val % 64 = 0 := by dsimp only; omega
    rw [outsAt0_B m c ⟨k + 1, hk⟩ hB]
    dsimp only
    refine (outB8 (F := Ideal) ..).trans ?_
    rw [kSq_point m c h, Finset.sum_range_succ]
    refine congrArg (· + _) ?_
    exact outs8 c h d n k (Nat.lt_of_succ_lt hk)

/-! ## The arrays -/

theorem index_6 : ∀ t : Fin cfg0.N, win0_6.index t = ![t.val / 4, 0, t.val % 4] :=
  (by decide +kernel : ∀ t : Fin grid0.N, win0_6.index t = ![t.val / 4, 0, t.val % 4])

theorem index_7 : ∀ t : Fin cfg0.N, win0_7.index t = ![t.val / 4, 0, t.val % 4] :=
  (by decide +kernel : ∀ t : Fin grid0.N, win0_7.index t = ![t.val / 4, 0, t.val % 4])

theorem emb_6 (t : Fin cfg0.N) (d : Fin 256) (l : Fin 512) :
    ((cfg0.win 6).blk t).view.emb (ix3 0 d l : S1x256x512.Idx)
      = (ix3 ⟨t.val / 4, by have := lt_N t; omega⟩ d ⟨512 * (t.val % 4) + l.val, by have := l.isLt; omega⟩ : S16x256x2048.Idx) := by
  funext a; apply Fin.ext
  match a with
  | ⟨0, _⟩ => show win0_6.index t 0 * 1 + 1 * 0 = t.val / 4; rw [index_6]; show t.val / 4 * 1 + 1 * 0 = _; omega
  | ⟨1, _⟩ => show win0_6.index t 1 * 256 + 1 * d.val = d.val; rw [index_6]; show 0 * 256 + 1 * d.val = _; omega
  | ⟨2, _⟩ => show win0_6.index t 2 * 512 + 1 * l.val = 512 * (t.val % 4) + l.val; rw [index_6]; show t.val % 4 * 512 + 1 * l.val = _; omega

theorem emb_7 (t : Fin cfg0.N) (n : Fin 8) (l : Fin 512) :
    ((cfg0.win 7).blk t).view.emb (ix3 0 n l : S1x8x512.Idx)
      = (ix3 ⟨t.val / 4, by have := lt_N t; omega⟩ n ⟨512 * (t.val % 4) + l.val, by have := l.isLt; omega⟩ : S16x8x2048.Idx) := by
  funext a; apply Fin.ext
  match a with
  | ⟨0, _⟩ => show win0_7.index t 0 * 1 + 1 * 0 = t.val / 4; rw [index_7]; show t.val / 4 * 1 + 1 * 0 = _; omega
  | ⟨1, _⟩ => show win0_7.index t 1 * 8 + 1 * n.val = n.val; rw [index_7]; show 0 * 8 + 1 * n.val = _; omega
  | ⟨2, _⟩ => show win0_7.index t 2 * 512 + 1 * l.val = 512 * (t.val % 4) + l.val; rw [index_7]; show t.val % 4 * 512 + 1 * l.val = _; omega

/-- The grid point that holds column `n` of batch entry `b`. -/
def ptOf (b : Fin 16) (n : Fin 2048) : Fin cfg0.N := ⟨4 * b.val + n.val / 512, by rw [show cfg0.N = 64 from N_0]; omega⟩

theorem flushed6 (c : Dev nD) (h : ∀ i, Fin' (argC m c i)) (t : Fin cfg0.N) :
    (dats m 0 c).flushed 6 t = ((cfg0.win 6).blk t).view.read (Elt Ideal) (quantOf (argX m c) (argC m c)) := by
  show (cfg0.win 6).cut (grid0.coords t) ((dats m 0 c).after 6 t) = _
  rw [after0_6, outs6]
  funext i
  obtain ⟨u, d, l, rfl⟩ : ∃ (u : Fin 1) (d : Fin 256) (l : Fin 512), i = (ix3 u d l : S1x256x512.Idx) := ⟨i 0, i 1, i 2, eq_ix3 i⟩
  obtain rfl : u = 0 := Subsingleton.elim _ _
  rw [View.read_apply, emb_6]
  show kQuant (iblk m c 0 t) (slabsAt m c t) (ix3 0 d l : S1x256x512.Idx) = _
  rw [kQuant_apply (isSlab m c h t), col_iblk, iblk0]
  rfl

theorem flushed7 (c : Dev nD) (h : ∀ i, Fin' (argC m c i)) (t : Fin cfg0.N) :
    (dats m 0 c).flushed 7 t = ((cfg0.win 7).blk t).view.read (Elt Ideal) (codesTOf (argX m c) (argC m c)) := by
  show (cfg0.win 7).cut (grid0.coords t) ((dats m 0 c).after 7 t) = _
  rw [after0_7]
  funext i
  obtain ⟨u, n, l, rfl⟩ : ∃ (u : Fin 1) (n : Fin 8) (l : Fin 512), i = (ix3 u n l : S1x8x512.Idx) := ⟨i 0, i 1, i 2, eq_ix3 i⟩
  obtain rfl : u = 0 := Subsingleton.elim _ _
  rw [View.read_apply, emb_7]
  show (outsAt0 m c t.val t.isLt).2.1 (ix3 0 n l : S1x8x512.Idx) = _
  rw [outs7, kCode_apply (isSlab m c h t), col_iblk]
  rfl

theorem final6 (c : Dev nD) (h : ∀ i, Fin' (argC m c i)) :
    (dats m 0 c).arrAt 6 cfg0.N = quantOf (argX m c) (argC m c) :=
  (dats m 0 c).arrAt_eq_of_cover 6 _ (fun t _ => flushed6 m c h t) fun i => by
    obtain ⟨b, d, n, rfl⟩ : ∃ (b : Fin 16) (d : Fin 256) (n : Fin 2048), i = (ix3 b d n : S16x256x2048.Idx) := ⟨i 0, i 1, i 2, eq_ix3 i⟩
    refine ⟨ptOf b n, flush0_6 _, ?_⟩
    have hn := n.isLt
    have e : (ix3 b d n : S16x256x2048.Idx) = ((cfg0.win 6).blk (ptOf b n)).view.emb (ix3 0 d ⟨n.val % 512, Nat.mod_lt _ (by decide)⟩ : S1x256x512.Idx) := by
      rw [emb_6]
      have e1 : (⟨(ptOf b n).val / 4, by have := lt_N (ptOf b n); omega⟩ : Fin 16) = b := Fin.ext (by show (4 * b.val + n.val / 512) / 4 = b.val; omega)
      have e2 : (⟨512 * ((ptOf b n).val % 4) + n.val % 512, by have := Nat.mod_lt n.val (show 512 > 0 by decide); omega⟩ : Fin 2048) = n :=
        Fin.ext (by show 512 * ((4 * b.val + n.val / 512) % 4) + n.val % 512 = n.val; omega)
      rw [e1]; exact congrArg (ix3 b d) e2.symm
    rw [e]
    exact View.emb_mem_set _ _

theorem final7 (c : Dev nD) (h : ∀ i, Fin' (argC m c i)) :
    (dats m 0 c).arrAt 7 cfg0.N = codesTOf (argX m c) (argC m c) :=
  (dats m 0 c).arrAt_eq_of_cover 7 _ (fun t _ => flushed7 m c h t) fun i => by
    obtain ⟨b, k, n, rfl⟩ : ∃ (b : Fin 16) (k : Fin 8) (n : Fin 2048), i = (ix3 b k n : S16x8x2048.Idx) := ⟨i 0, i 1, i 2, eq_ix3 i⟩
    refine ⟨ptOf b n, flush0_7 _, ?_⟩
    have hn := n.isLt
    have e : (ix3 b k n : S16x8x2048.Idx) = ((cfg0.win 7).blk (ptOf b n)).view.emb (ix3 0 k ⟨n.val % 512, Nat.mod_lt _ (by decide)⟩ : S1x8x512.Idx) := by
      rw [emb_7]
      have e1 : (⟨(ptOf b n).val / 4, by have := lt_N (ptOf b n); omega⟩ : Fin 16) = b := Fin.ext (by show (4 * b.val + n.val / 512) / 4 = b.val; omega)
      have e2 : (⟨512 * ((ptOf b n).val % 4) + n.val % 512, by have := Nat.mod_lt n.val (show 512 > 0 by decide); omega⟩ : Fin 2048) = n :=
        Fin.ext (by show 512 * ((4 * b.val + n.val / 512) % 4) + n.val % 512 = n.val; omega)
      rw [e1]; exact congrArg (ix3 b k) e2.symm
    rw [e]
    exact View.emb_mem_set _ _

theorem lt_64 : 63 < cfg0.N := by rw [show cfg0.N = 64 from N_0]; decide

theorem emb_8 (t : Fin cfg0.N) (i : S256x8.Idx) : ((cfg0.win 8).blk t).view.emb i = i := by
  funext a; apply Fin.ext
  match a with
  | ⟨0, _⟩ => show 0 * 256 + 1 * (i 0).val = (i 0).val; omega
  | ⟨1, _⟩ => show 0 * 8 + 1 * (i 1).val = (i 1).val; omega

theorem final8 (c : Dev nD) (h : ∀ i, Fin' (argC m c i)) :
    (dats m 0 c).arrAt 8 cfg0.N = ssqOf (argX m c) (argC m c) :=
  (dats m 0 c).arrAt_eq_of_cover 8 _ (fun t hf => by
    have h3 : t.val = 63 := by have := (flush0_8 t).mp hf; have := lt_N t; omega
    show (cfg0.win 8).cut (grid0.coords t) ((dats m 0 c).after 8 t) = _
    rw [after0_8]
    funext i
    rw [View.read_apply, emb_8]
    show (outsAt0 m c t.val t.isLt).2.2 i = _
    obtain ⟨d, n, rfl⟩ : ∃ (d : Fin 256) (n : Fin 8), i = (ix2 d n : S256x8.Idx) := ⟨i 0, i 1, eq_ix2 i⟩
    rw [outs8 m c h, h3]
    rfl) fun i => by
    refine ⟨⟨63, lt_64⟩, (flush0_8 _).mpr rfl, ?_⟩
    have := View.emb_mem_set ((cfg0.win 8).blk ⟨63, lt_64⟩).view i
    rwa [emb_8] at this

end Cert.Rvq.K
-- ==== Proof.KRun.lean ====
/- THE KERNEL'S RUN, READ. The launch leaves the three arrays of `KArr`; the host's last lines turn the codes over and make
   the loss and the bandwidth. Each of the four results as its function of the arguments, the arguments unchanged. -/
module

public import proofs.«01_k».proof.Proof.KArr

@[expose] public section

set_option maxRecDepth 16384

noncomputable section

namespace Cert.Rvq.K

open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ) (ρ : Dev nD → PrngReg)

/-- The buffers when the launch is over. -/
abbrev W (c : Dev nD) : Valuation τ sig (Elt Ideal) :=
  Pipeline.withArrays (cfgs 0).spec c (V0 m c) fun w => (dats m 0 c).arrAt w (cfgs 0).N

theorem W_codes (c : Dev nD) (h : ∀ i, Fin' (argC m c i)) :
    W m c (Proc.devRef .tc main_call0_v13_1) = codesTOf (argX m c) (argC m c) :=
  (Pipeline.withArrays_arr spec0 launch0.win.arr_inj c (V0 m c) (fun w => (dats m 0 c).arrAt w (cfgs 0).N) 7).trans (final7 m c h)

theorem W_ssq (c : Dev nD) (h : ∀ i, Fin' (argC m c i)) :
    W m c (Proc.devRef .tc main_call0_v13_2) = ssqOf (argX m c) (argC m c) :=
  (Pipeline.withArrays_arr spec0 launch0.win.arr_inj c (V0 m c) (fun w => (dats m 0 c).arrAt w (cfgs 0).N) 8).trans (final8 m c h)

theorem W_rate (c : Dev nD) : W m c (Proc.devRef .tc main_arg2) = m ((c : Thread nD τ).loc main_arg2) :=
  (Pipeline.withArrays_of_ne spec0 c (V0 m c) _ main_arg2 (by exact (by decide : ∀ w, Pipeline.arrRef spec0 w ≠ main_arg2))).trans (V_main_arg2 m c)

/-- What the host makes of the sums of squares. -/
def lossExpr (s : S256x8.Idx → EReal) : S_.Idx → EReal :=
  Host.divf (F := Ideal) (φ := .f32) (Host.reduceAdd (F := Ideal) (Host.divf (F := Ideal) (φ := .f32)
      (mulf (F := Ideal) (φ := .f32) (broadcastInDim S8 ![] bcast_S_S8 (constant S_ .f32 0x3FA00000#32)) (Host.reduceAdd (F := Ideal) s (constant S_ .f32 0x00000000#32) reducesTo_S256x8_S8_d0 h_S_))
      (broadcastInDim S8 ![] bcast_S_S8 (constant S_ .f32 0x4B000000#32))) (constant S_ .f32 0x00000000#32) reducesTo_S8_S_d0 h_S_)
    (constant S_ .f32 0x41000000#32)

/-- The host's last lines, from any buffers. -/
theorem after_codes (V : Valuation τ sig (Elt Ideal)) : StableHlo.after hostOps1 V (Proc.devRef .tc main_v0_1)
    = transpose S8x16x2048 [1, 0, 2] (V (Proc.devRef .tc main_call0_v13_1) : S16x8x2048.Idx → BitVec 32) transposes_S16x8x2048_S8x16x2048_1_0_2 := by
  after_results
  rfl

theorem after_bw (V : Valuation τ sig (Elt Ideal)) : StableHlo.after hostOps1 V (Proc.devRef .tc main_v0_2)
    = bwOf (V (Proc.devRef .tc main_arg2)) := by
  after_results
  rfl

theorem after_loss (V : Valuation τ sig (Elt Ideal)) : StableHlo.after hostOps1 V (Proc.devRef .tc main_v0_3)
    = lossExpr (V (Proc.devRef .tc main_call0_v13_2)) := by
  after_results
  rfl

/-- The codes, turned over. -/
theorem tail_codes (c : Dev nD) (h : ∀ i, Fin' (argC m c i)) :
    Pipeline.afterTail₀ cfgs (dats m) 0 (V0 m) [hostOps1] c main_v0_1 = codesOf (argX m c) (argC m c) := by
  refine (after_codes (W m c)).trans ?_
  rw [W_codes m c h]
  funext i
  exact transpose_apply _ _ _ _ (ix3 (i 1) (i 0) (i 2) : S16x8x2048.Idx) fun a => match a with | ⟨0, _⟩ => rfl | ⟨1, _⟩ => rfl | ⟨2, _⟩ => rfl

/-- The bandwidth. -/
theorem tail_bw (c : Dev nD) :
    Pipeline.afterTail₀ cfgs (dats m) 0 (V0 m) [hostOps1] c main_v0_2 = bwOf (m ((c : Thread nD τ).loc main_arg2)) := by
  refine (after_bw (W m c)).trans ?_
  rw [W_rate m c]

/-- A sum over the 8 quantizers. -/
theorem sum_8 (x : S8.Idx → EReal) (j : S_.Idx) :
    Host.reduceAdd (F := Ideal) (φ := .f32) x (constant S_ .f32 0x00000000#32) reducesTo_S8_S_d0 h_S_ j = ∑ k : Fin 8, x (ix1 k) := by
  rw [hostReduceAdd_apply, Ideal.hostReduceAdd_total _ (by decide), constant_apply, Ideal.ofBits_zero_f32, zero_add]
  exact sum_line x

/-- A sum over the 256 coordinates. -/
theorem sum_256 (x : S256x8.Idx → EReal) (k : Fin 8) :
    Host.reduceAdd (F := Ideal) (φ := .f32) x (constant S_ .f32 0x00000000#32) reducesTo_S256x8_S8_d0 h_S_ (ix1 k : S8.Idx) = ∑ d : Fin 256, x (ix2 d k) := by
  have hr : S256x8.Reduces [0] S8 := by decide
  rw [hostReduceAdd_apply, Ideal.hostReduceAdd_single _ hr, constant_apply, Ideal.ofBits_zero_f32, zero_add]
  refine Finset.sum_congr rfl fun d _ => congrArg x ?_
  funext a; match a with | ⟨0, _⟩ => rfl | ⟨1, _⟩ => rfl

theorem lit_54 : Ideal.ofBits .f32 0x3FA00000#32 = ((5 / 4 : ℝ) : EReal) := by
  simp [Ideal.ofBits, Ideal.ieee, -EReal.coe_mul]; norm_num

theorem lit_n : Ideal.ofBits .f32 0x4B000000#32 = ((8388608 : ℝ) : EReal) := by
  simp [Ideal.ofBits, Ideal.ieee, -EReal.coe_mul]

theorem lit_8 : Ideal.ofBits .f32 0x41000000#32 = ((8 : ℝ) : EReal) := by
  simp [Ideal.ofBits, Ideal.ieee, -EReal.coe_mul]; norm_num

theorem lossExpr_eq (X : XArr) (C : CArr) : lossExpr (ssqOf X C) = lossOf X C := by
  funext j
  unfold lossExpr lossOf
  rw [hostDivf_apply, sum_8, constant_apply, lit_8]
  refine congrArg (fun s => Ideal.div s _) (Finset.sum_congr rfl fun k _ => ?_)
  rw [hostDivf_apply, mulf_apply, sum_256, broadcastInDim_scalar_apply, broadcastInDim_scalar_apply, constant_apply, constant_apply, lit_54, lit_n]
  unfold lossAt
  rw [← sum_points_total]
  rfl

/-- The loss. -/
theorem tail_loss (c : Dev nD) (h : ∀ i, Fin' (argC m c i)) :
    Pipeline.afterTail₀ cfgs (dats m) 0 (V0 m) [hostOps1] c main_v0_3 = lossOf (argX m c) (argC m c) := by
  refine (after_loss (W m c)).trans ?_
  rw [W_ssq m c h, lossExpr_eq]

/-- The run, read. -/
theorem run (h : ∀ c i, Fin' (argC m c i)) : θ_run defs (onTc (τ := τ) (main (F := Ideal))) ⟨m, fun _ => 0, ρ⟩ fun r => ∀ c : Dev nD,
      (r.2.mem ((c.tc : Thread nD τ).loc main_v0_0) = quantOf (argX m c) (argC m c)
      ∧ r.2.mem ((c.tc : Thread nD τ).loc main_v0_1) = codesOf (argX m c) (argC m c)
      ∧ r.2.mem ((c.tc : Thread nD τ).loc main_v0_2) = bwOf (m ((c : Thread nD τ).loc main_arg2))
      ∧ r.2.mem ((c.tc : Thread nD τ).loc main_v0_3) = lossOf (argX m c) (argC m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r hr c => ⟨⟨?_, ?_, ?_, ?_⟩, ?_⟩) (θ_run_and (run_main m ρ) (unchanged m ρ))
  · exact ((hr.1 c).1 6).trans (final6 m c (h c))
  · exact ((hr.1 c).2 main_v0_1 (Pipeline.mem_restRefs_of main_v0_1 (by decide) (by decide))).trans (tail_codes m c (h c))
  · exact ((hr.1 c).2 main_v0_2 (Pipeline.mem_restRefs_of main_v0_2 (by decide) (by decide))).trans (tail_bw m c)
  · exact ((hr.1 c).2 main_v0_3 (Pipeline.mem_restRefs_of main_v0_3 (by decide) (by decide))).trans (tail_loss m c (h c))
  · exact hr.2 c

end Cert.Rvq.K
-- ==== Proof.RStep.lean ====
/- ONE TRIP OF THE REFERENCE'S LOOP, as array functions: the codebook read at the counter, the distances, the code, the row
   taken, the residual and the loss. -/
module

public import proofs.«01_k».proof.Proof.Gen.ReferenceIdeal
public import proofs.«01_k».proof.Proof.Results
public import Idealize.ShloMosaic.Lib.MatmulPlain
public import Idealize.ShloMosaic.Lib.ValueLayout
public import Idealize.ShloMosaic.Lib.ValueLayoutCasts
public import Idealize.ShloMosaic.Lib.ValueIdx
public import Idealize.ShloMosaic.Lib.IdealHost
public import Idealize.ShloMosaic.Lib.DynamicIndex
public import Idealize.ShloMosaic.Lib.WordCmp
public import Idealize.ShloMosaic.Lib.ReduceAll

@[expose] public section

set_option maxRecDepth 16384

noncomputable section

namespace Cert.Rvq.Ref

open Cert.ReferenceIdeal Cert.ReferenceIdeal.Gen
open Idealize.ShloMosaic Idealize.ShloMosaic.TcCoe Idealize.ShloMosaic.StableHlo
open Idealize.ShloMosaic.ValueIdx

/-! ## The array functions -/

/-- The starts of a slice at the counter `t` on the first of three axes. -/
def starts3 (t : S_.Idx → BitVec 32) : Fin 3 → Int :=
  fun k => ((![t, constantI S_ 32 0#32, constantI S_ 32 0#32] : Fin 3 → S_.Idx → BitVec 32) k (Shape.Idx.first h_S_)).toInt

/-- The start of a slice at the counter `t` on the only axis. -/
def starts1 (t : S_.Idx → BitVec 32) : Fin 1 → Int := fun k => ((![t] : Fin 1 → S_.Idx → BitVec 32) k (Shape.Idx.first h_S_)).toInt

/-- The codebook at the counter. -/
def rBook (C : FVec Ideal S8x1024x256 .f32) (t : S_.Idx → BitVec 32) : FVec Ideal S1024x256 .f32 :=
  shapeCast S1024x256 (Host.dynamicSlice S1x1024x256 C (starts3 t) sliceFits_S8x1024x256_S1x1024x256) shapeCasts_S1x1024x256_S1024x256

/-- The distances. -/
def rDist (r : FVec Ideal S16x2048x256 .f32) (B : FVec Ideal S1024x256 .f32) : FVec Ideal S16x2048x1024 .f32 :=
  addf (subf (broadcastInDim S16x2048x1024 ![0, 1, 2] bcast_S16x2048x1_S16x2048x1024_0_1_2 (broadcastInDim S16x2048x1 ![0, 1] bcast_S16x2048_S16x2048x1_0_1
        (Host.reduceAdd (F := Ideal) (φ := .f32) (mulf r r) (constant S_ .f32 0x00000000#32) reducesTo_S16x2048x256_S16x2048_d2 h_S_)))
      (mulf (broadcastInDim S16x2048x1024 ![] bcast_S_S16x2048x1024 (constant S_ .f32 0x40000000#32))
        (Host.dotGeneral dot_S16x2048x256_S256x1024_S16x2048x1024_2_0_01_1_n_n none r (transpose S256x1024 [1, 0] B transposes_S1024x256_S256x1024_1_0))))
    (broadcastInDim S16x2048x1024 ![0, 1, 2] bcast_S1x1x1024_S16x2048x1024_0_1_2 (broadcastInDim S1x1x1024 ![2] bcast_S1024_S1x1x1024_2
      (Host.reduceAdd (F := Ideal) (φ := .f32) (mulf B B) (constant S_ .f32 0x00000000#32) reducesTo_S1024x256_S1024_d1 h_S_)))

/-- The least distances with their places. -/
def rLeast (D : FVec Ideal S16x2048x1024 .f32) : S16x2048.Idx → EReal × BitVec 32 :=
  Host.argReduce (reducer_argmin_f32_i32 (F := Ideal)) D (iotaInDim S16x2048x1024 32 2) (constant (F := Ideal) S_ .f32 0x7F800000#32) (constantI S_ 32 0#32)
    reducesTo_S16x2048x1024_S16x2048_d2 h_S_

/-- The places the rows are taken at. -/
def rPlace (c : S16x2048.Idx → BitVec 32) : S16x2048x1.Idx → BitVec 32 :=
  broadcastInDim S16x2048x1 ![0, 1] bcast_S16x2048_S16x2048x1_0_1
    (select (cmpi .slt c (broadcastInDim S16x2048 ![] bcast_S_S16x2048 (constantI S_ 32 0#32)))
      (addi c (broadcastInDim S16x2048 ![] bcast_S_S16x2048 (constantI S_ 32 1024#32))) c)

/-- Which of them lie in the codebook. -/
def rMask (p : S16x2048x1.Idx → BitVec 32) : S16x2048x1.Idx → BitVec 1 :=
  andi (cmpi .sge p (broadcastInDim S16x2048x1 ![] bcast_S_S16x2048x1 (constantI S_ 32 0#32)))
    (cmpi .sle p (broadcastInDim S16x2048x1 ![0, 1, 2] bcast_S1x1x1_S16x2048x1_0_1_2 (broadcastInDim S1x1x1 ![2] bcast_S1_S1x1x1_2 (constantI S1 32 1023#32))))

/-- The rows taken. -/
def rTake (B : FVec Ideal S1024x256 .f32) (c : S16x2048.Idx → BitVec 32) : FVec Ideal S16x2048x256 .f32 :=
  select (broadcastInDim S16x2048x256 ![0, 1] bcast_S16x2048_S16x2048x256_0_1
      (Host.reduce IntOp.andi (rMask (rPlace c)) (constantI S_ 1 1#1) reducesTo_S16x2048x1_S16x2048_d2 h_S_))
    (Host.gather gather_S1024x256_S16x2048x1_S16x2048x256_2_0_n_n_0_2_1256 B (rPlace c))
    (broadcastInDim S16x2048x256 ![] bcast_S_S16x2048x256 (constant (F := Ideal) S_ .f32 0x7FC00000#32))

/-- What the rows taken add to the result. -/
def rThrough (r q : FVec Ideal S16x2048x256 .f32) : FVec Ideal S16x2048x256 .f32 := addf r (subf q r)

/-- The mean of the squares. -/
def rMean (r q : FVec Ideal S16x2048x256 .f32) : FVec Ideal S_ .f32 :=
  Host.divf (Host.reduceAdd (F := Ideal) (φ := .f32) (mulf (subf q r) (subf q r)) (constant S_ .f32 0x00000000#32) reducesTo_S16x2048x256_S_d0_1_2 h_S_)
    (constant S_ .f32 0x4B000000#32)

/-- The loss. -/
def rLoss (r q : FVec Ideal S16x2048x256 .f32) : FVec Ideal S_ .f32 :=
  addf (mulf (constant S_ .f32 0x3E800000#32) (rMean r q)) (mulf (constant S_ .f32 0x3F800000#32) (rMean r q))

/-- The codes with one quantizer's put in. -/
def rPutCodes (A : S8x16x2048.Idx → BitVec 32) (c : S16x2048.Idx → BitVec 32) (t : S_.Idx → BitVec 32) : S8x16x2048.Idx → BitVec 32 :=
  Host.dynamicUpdateSlice A (broadcastInDim S1x16x2048 ![1, 2] bcast_S16x2048_S1x16x2048_1_2 c) (starts3 t) updateFits_S8x16x2048_S1x16x2048

/-- The losses with one quantizer's put in. -/
def rPutLoss (A : FVec Ideal S8 .f32) (l : FVec Ideal S_ .f32) (t : S_.Idx → BitVec 32) : FVec Ideal S8 .f32 :=
  Host.dynamicUpdateSlice A (broadcastInDim S1 ![] bcast_S_S1 l) (starts1 t) updateFits_S8_S1

end Cert.Rvq.Ref
-- ==== Proof.RTrip.lean ====
/- WHAT EACH STRETCH OF A TRIP LEAVES, from any buffers: the array functions of `RStep` of what the stretch was given. -/
module

public import proofs.«01_k».proof.Proof.RefRun
public import proofs.«01_k».proof.Proof.RStep
public import Idealize.ShloMosaic.Lib.StableHlo.RunClose

@[expose] public section

set_option maxRecDepth 100000

noncomputable section

namespace Cert.Rvq.Ref

open Idealize.ShloMosaic Idealize.ShloMosaic.TcCoe Idealize.ShloMosaic.Tactic Idealize.ShloMosaic.StableHlo
open Idealize.SL Idealize.SL.Sem
open Cert.ReferenceIdeal Cert.ReferenceIdeal.Gen Cert.ReferenceIdeal.Value

variable (V : Valuation τ sig (Elt Ideal))

theorem at_book : after while0Ops0 V (Proc.devRef .tc main_while0b_v12) = rBook (V (Proc.devRef .tc main_v4_0)) (V (Proc.devRef .tc main_v4_1)) := by
  after_results_simp_entrywise
  rfl

theorem at_dist : after while0Ops0_1 V (Proc.devRef .tc main_while0b_v26) = rDist (V (Proc.devRef .tc main_v4_2)) (V (Proc.devRef .tc main_while0b_v12)) := by
  after_results
  rfl

theorem at_code : after while0Ops0_2 V (Proc.devRef .tc main_while0b_v27) = fun j => (rLeast (V (Proc.devRef .tc main_while0b_v26)) j).2 := by
  after_results
  rfl

theorem at_take : after while0Ops0_3 V (Proc.devRef .tc main_while0b_v28) = rTake (V (Proc.devRef .tc main_while0b_v12)) (V (Proc.devRef .tc main_while0b_v27)) := by
  after_results
  rfl

theorem at_res : after while0Ops0_4 V (Proc.devRef .tc main_while0b_v41)
    = subf (F := Ideal) (φ := .f32) (V (Proc.devRef .tc main_v4_2)) (rThrough (V (Proc.devRef .tc main_v4_2)) (V (Proc.devRef .tc main_while0b_v28))) := by
  after_results
  rfl

theorem at_acc : after while0Ops0_4 V (Proc.devRef .tc main_while0b_v42)
    = addf (F := Ideal) (φ := .f32) (V (Proc.devRef .tc main_v4_3)) (rThrough (V (Proc.devRef .tc main_v4_2)) (V (Proc.devRef .tc main_while0b_v28))) := by
  after_results
  rfl

theorem at_loss : after while0Ops0_4 V (Proc.devRef .tc main_while0b_v43) = rLoss (V (Proc.devRef .tc main_v4_2)) (V (Proc.devRef .tc main_while0b_v28)) := by
  after_results
  rfl

theorem at_codes : after while0Ops0_5 V (Proc.devRef .tc main_while0b_v44)
    = rPutCodes (V (Proc.devRef .tc main_v4_4)) (V (Proc.devRef .tc main_while0b_v27)) (V (Proc.devRef .tc main_v4_1)) := by
  after_results_simp_entrywise
  rfl

theorem at_losses : after while0Ops0_6 V (Proc.devRef .tc main_while0b_v45)
    = rPutLoss (V (Proc.devRef .tc main_v4_5)) (V (Proc.devRef .tc main_while0b_v43)) (V (Proc.devRef .tc main_v4_1)) := by
  after_results_simp_entrywise
  rfl

theorem next_res : after while0Ops0_7 V (Proc.devRef .tc main_v4_2) = V (Proc.devRef .tc main_while0b_v41) := by
  after_results
  rfl

theorem next_acc : after while0Ops0_7 V (Proc.devRef .tc main_v4_3) = V (Proc.devRef .tc main_while0b_v42) := by
  after_results
  rfl

theorem next_codes : after while0Ops0_7 V (Proc.devRef .tc main_v4_4) = V (Proc.devRef .tc main_while0b_v44) := by
  after_results
  rfl

theorem next_losses : after while0Ops0_7 V (Proc.devRef .tc main_v4_5) = V (Proc.devRef .tc main_while0b_v45) := by
  after_results
  rfl

/-! ## A whole trip -/

/-- The buffers after the trip's test and its first stretch, then after each stretch more. -/
def X0 : Valuation τ sig (Elt Ideal) := after while0Ops0 (after condOps V)
def X1 : Valuation τ sig (Elt Ideal) := after while0Ops0_1 (X0 V)
def X2 : Valuation τ sig (Elt Ideal) := after while0Ops0_2 (X1 V)
def X3 : Valuation τ sig (Elt Ideal) := after while0Ops0_3 (X2 V)
def X4 : Valuation τ sig (Elt Ideal) := after while0Ops0_4 (X3 V)
def X5 : Valuation τ sig (Elt Ideal) := after while0Ops0_5 (X4 V)
def X6 : Valuation τ sig (Elt Ideal) := after while0Ops0_6 (X5 V)

/-- What the test and the first stretches do not write stays; of the stretches, the one named and those before it. -/
theorem keep0 {r : Ref sig .tc} (h0 : r ∉ while0Ops0_W) (h : r ∉ condOps_W) : X0 V (Proc.devRef .tc r) = V (Proc.devRef .tc r) :=
  (after_of_writes_sub _ _ while0Ops0_writes h0).trans (after_of_writes_sub _ _ condOps_writes h)
theorem keep1 {r : Ref sig .tc} (h : r ∉ while0Ops0_1_W) : X1 V (Proc.devRef .tc r) = X0 V (Proc.devRef .tc r) :=
  after_of_writes_sub _ _ while0Ops0_1_writes h
theorem keep2 {r : Ref sig .tc} (h : r ∉ while0Ops0_2_W) : X2 V (Proc.devRef .tc r) = X1 V (Proc.devRef .tc r) :=
  after_of_writes_sub _ _ while0Ops0_2_writes h
theorem keep3 {r : Ref sig .tc} (h : r ∉ while0Ops0_3_W) : X3 V (Proc.devRef .tc r) = X2 V (Proc.devRef .tc r) :=
  after_of_writes_sub _ _ while0Ops0_3_writes h
theorem keep4 {r : Ref sig .tc} (h : r ∉ while0Ops0_4_W) : X4 V (Proc.devRef .tc r) = X3 V (Proc.devRef .tc r) :=
  after_of_writes_sub _ _ while0Ops0_4_writes h
theorem keep5 {r : Ref sig .tc} (h : r ∉ while0Ops0_5_W) : X5 V (Proc.devRef .tc r) = X4 V (Proc.devRef .tc r) :=
  after_of_writes_sub _ _ while0Ops0_5_writes h
theorem keep6 {r : Ref sig .tc} (h : r ∉ while0Ops0_6_W) : X6 V (Proc.devRef .tc r) = X5 V (Proc.devRef .tc r) :=
  after_of_writes_sub _ _ while0Ops0_6_writes h

/-- A trip's codebook, codes and rows taken, from the buffers it began with. -/
abbrev tBook : FVec Ideal S1024x256 .f32 := rBook (V (Proc.devRef .tc main_v4_0)) (V (Proc.devRef .tc main_v4_1))
abbrev tLeast : S16x2048.Idx → EReal × BitVec 32 := rLeast (rDist (V (Proc.devRef .tc main_v4_2)) (tBook V))
abbrev tTake : FVec Ideal S16x2048x256 .f32 := rTake (tBook V) fun j => (tLeast V j).2

theorem x_book : X0 V (Proc.devRef .tc main_while0b_v12) = tBook V := by
  rw [show X0 V (Proc.devRef .tc main_while0b_v12) = _ from at_book (after condOps V), after_of_writes_sub (r := main_v4_0) _ _ condOps_writes (by decide +kernel), after_of_writes_sub (r := main_v4_1) _ _ condOps_writes (by decide +kernel)]

theorem x_dist : X1 V (Proc.devRef .tc main_while0b_v26) = rDist (V (Proc.devRef .tc main_v4_2)) (tBook V) := by
  rw [show X1 V (Proc.devRef .tc main_while0b_v26) = _ from at_dist (X0 V), x_book, keep0 V (r := main_v4_2) (by decide +kernel) (by decide +kernel)]

theorem x_code : X2 V (Proc.devRef .tc main_while0b_v27) = fun j => (tLeast V j).2 := by
  rw [show X2 V (Proc.devRef .tc main_while0b_v27) = _ from at_code (X1 V), x_dist]

theorem x_take : X3 V (Proc.devRef .tc main_while0b_v28) = tTake V := by
  rw [show X3 V (Proc.devRef .tc main_while0b_v28) = _ from at_take (X2 V), x_code, keep2 V (r := main_while0b_v12) (by decide +kernel), keep1 V (r := main_while0b_v12) (by decide +kernel), x_book]

/-- A carried buffer keeps its contents up to the fourth stretch. -/
theorem x_res : X3 V (Proc.devRef .tc main_v4_2) = V (Proc.devRef .tc main_v4_2) := by
  rw [keep3 V (r := main_v4_2) (by decide +kernel), keep2 V (r := main_v4_2) (by decide +kernel), keep1 V (r := main_v4_2) (by decide +kernel), keep0 V (r := main_v4_2) (by decide +kernel) (by decide +kernel)]

theorem x_acc : X3 V (Proc.devRef .tc main_v4_3) = V (Proc.devRef .tc main_v4_3) := by
  rw [keep3 V (r := main_v4_3) (by decide +kernel), keep2 V (r := main_v4_3) (by decide +kernel), keep1 V (r := main_v4_3) (by decide +kernel), keep0 V (r := main_v4_3) (by decide +kernel) (by decide +kernel)]

theorem x_codes : X4 V (Proc.devRef .tc main_v4_4) = V (Proc.devRef .tc main_v4_4) := by
  rw [keep4 V (r := main_v4_4) (by decide +kernel), keep3 V (r := main_v4_4) (by decide +kernel), keep2 V (r := main_v4_4) (by decide +kernel), keep1 V (r := main_v4_4) (by decide +kernel), keep0 V (r := main_v4_4) (by decide +kernel) (by decide +kernel)]

theorem x_ctr : X4 V (Proc.devRef .tc main_v4_1) = V (Proc.devRef .tc main_v4_1) := by
  rw [keep4 V (r := main_v4_1) (by decide +kernel), keep3 V (r := main_v4_1) (by decide +kernel), keep2 V (r := main_v4_1) (by decide +kernel), keep1 V (r := main_v4_1) (by decide +kernel), keep0 V (r := main_v4_1) (by decide +kernel) (by decide +kernel)]

theorem x_losses : X5 V (Proc.devRef .tc main_v4_5) = V (Proc.devRef .tc main_v4_5) := by
  rw [keep5 V (r := main_v4_5) (by decide +kernel), keep4 V (r := main_v4_5) (by decide +kernel), keep3 V (r := main_v4_5) (by decide +kernel), keep2 V (r := main_v4_5) (by decide +kernel), keep1 V (r := main_v4_5) (by decide +kernel), keep0 V (r := main_v4_5) (by decide +kernel) (by decide +kernel)]

/-- The residual after a trip. -/
theorem trip_res : afterL bodyI (after condOps V) (Proc.devRef .tc main_v4_2)
    = subf (F := Ideal) (φ := .f32) (V (Proc.devRef .tc main_v4_2)) (rThrough (V (Proc.devRef .tc main_v4_2)) (tTake V)) := by
  refine (next_res (X6 V)).trans ?_
  rw [keep6 V (r := main_while0b_v41) (by decide +kernel), keep5 V (r := main_while0b_v41) (by decide +kernel), show X4 V (Proc.devRef .tc main_while0b_v41) = _ from at_res (X3 V), x_res, x_take]

/-- The sum of what was added, after a trip. -/
theorem trip_acc : afterL bodyI (after condOps V) (Proc.devRef .tc main_v4_3)
    = addf (F := Ideal) (φ := .f32) (V (Proc.devRef .tc main_v4_3)) (rThrough (V (Proc.devRef .tc main_v4_2)) (tTake V)) := by
  refine (next_acc (X6 V)).trans ?_
  rw [keep6 V (r := main_while0b_v42) (by decide +kernel), keep5 V (r := main_while0b_v42) (by decide +kernel), show X4 V (Proc.devRef .tc main_while0b_v42) = _ from at_acc (X3 V), x_res, x_acc, x_take]

/-- The codes after a trip. -/
theorem trip_codes : afterL bodyI (after condOps V) (Proc.devRef .tc main_v4_4)
    = rPutCodes (V (Proc.devRef .tc main_v4_4)) (fun j => (tLeast V j).2) (V (Proc.devRef .tc main_v4_1)) := by
  refine (next_codes (X6 V)).trans ?_
  rw [keep6 V (r := main_while0b_v44) (by decide +kernel), show X5 V (Proc.devRef .tc main_while0b_v44) = _ from at_codes (X4 V), x_codes, x_ctr,
    keep4 V (r := main_while0b_v27) (by decide +kernel), keep3 V (r := main_while0b_v27) (by decide +kernel), x_code]

/-- The losses after a trip. -/
theorem trip_losses : afterL bodyI (after condOps V) (Proc.devRef .tc main_v4_5)
    = rPutLoss (V (Proc.devRef .tc main_v4_5)) (rLoss (V (Proc.devRef .tc main_v4_2)) (tTake V)) (V (Proc.devRef .tc main_v4_1)) := by
  refine (next_losses (X6 V)).trans ?_
  rw [show X6 V (Proc.devRef .tc main_while0b_v45) = _ from at_losses (X5 V), x_losses, keep5 V (r := main_v4_1) (by decide +kernel), x_ctr,
    keep5 V (r := main_while0b_v43) (by decide +kernel), show X4 V (Proc.devRef .tc main_while0b_v43) = _ from at_loss (X3 V), x_res, x_take]

end Cert.Rvq.Ref
-- ==== Proof.RRead.lean ====
/- ONE TRIP OF THE REFERENCE'S LOOP, at an index: the array functions of `RStep` in the words of `Spec`. -/
module

public import proofs.«01_k».proof.Proof.RStep
public import proofs.«01_k».proof.Proof.Results
public import Idealize.ShloMosaic.Lib.MatmulPlain
public import Idealize.ShloMosaic.Lib.ValueLayout
public import Idealize.ShloMosaic.Lib.ValueLayoutCasts
public import Idealize.ShloMosaic.Lib.ValueIdx
public import Idealize.ShloMosaic.Lib.IdealHost
public import Idealize.ShloMosaic.Lib.DynamicIndex
public import Idealize.ShloMosaic.Lib.WordCmp
public import Idealize.ShloMosaic.Lib.ReduceAll

@[expose] public section

set_option maxRecDepth 16384

noncomputable section

namespace Cert.Rvq.Ref

open Cert.ReferenceIdeal Cert.ReferenceIdeal.Gen
open Idealize.ShloMosaic Idealize.ShloMosaic.TcCoe Idealize.ShloMosaic.StableHlo
open Idealize.ShloMosaic.ValueIdx

/-! ## At an index -/

/-- The counter's word, at trip `k`. -/
abbrev ctr (k : ℕ) : S_.Idx → BitVec 32 := fun _ => BitVec.ofNat 32 k

theorem starts3_ctr (k : Fin 8) (a : Fin 3) : starts3 (ctr k) a = ((![k.val, 0, 0] : Fin 3 → ℕ) a : Int) := by
  have hk := k.isLt
  match a with
  | ⟨0, _⟩ => exact toInt_ofNat_of_lt (by omega)
  | ⟨1, _⟩ => rfl
  | ⟨2, _⟩ => rfl

theorem starts1_ctr (k : Fin 8) (a : Fin 1) : starts1 (ctr k) a = ((![k.val] : Fin 1 → ℕ) a : Int) := by
  have hk := k.isLt
  match a with
  | ⟨0, _⟩ => exact toInt_ofNat_of_lt (by omega)

theorem rBook_apply (C : FVec Ideal S8x1024x256 .f32) (k : Fin 8) (j : Fin 1024) (d : Fin 256) :
    rBook C (ctr k) (ix2 j d : S1024x256.Idx) = book C k j d := by
  have hk := k.isLt
  have hs : S8x1024x256.Slices (![k.val, 0, 0] : Fin 3 → ℕ) S1x1024x256 := ⟨rfl, fun a => by
    match a with
    | ⟨0, _⟩ => exact hk
    | ⟨1, _⟩ => exact Nat.le_refl _
    | ⟨2, _⟩ => exact Nat.le_refl _⟩
  have he : rBook C (ctr k) = shapeCast S1024x256 (extractStridedSlice S1x1024x256 ![k.val, 0, 0] C hs) shapeCasts_S1x1024x256_S1024x256 :=
    congrArg (fun z => shapeCast S1024x256 z shapeCasts_S1x1024x256_S1024x256) (WordCmp.dynamicSlice_eq_extract _ C _ _ _ hs (starts3_ctr k))
  rw [he]
  refine (shapeCast_1ab_ab_apply _ _ j d).trans ?_
  refine congrArg C ?_
  funext a
  match a with
  | ⟨0, _⟩ => exact Fin.ext (by show k.val + 0 = k.val % 8; omega)
  | ⟨1, _⟩ => exact Fin.ext (by show 0 + j.val = j.val; omega)
  | ⟨2, _⟩ => exact Fin.ext (by show 0 + d.val = d.val; omega)

/-- Column (`b`, `n`) of a residual. -/
def colR (r : FVec Ideal S16x2048x256 .f32) (b : Fin 16) (n : Fin 2048) : Col := fun d => r (ix3 b n d : S16x2048x256.Idx)

/-- An array of codewords as a codebook. -/
def bookR (B : FVec Ideal S1024x256 .f32) : Book := fun j d => B (ix2 j d : S1024x256.Idx)

theorem sum_r (x : FVec Ideal S16x2048x256 .f32) (b : Fin 16) (n : Fin 2048) :
    Host.reduceAdd (F := Ideal) (φ := .f32) x (constant S_ .f32 0x00000000#32) reducesTo_S16x2048x256_S16x2048_d2 h_S_ (ix2 b n : S16x2048.Idx) = ∑ d : Fin 256, colR x b n d := by
  have hr : S16x2048x256.Reduces [2] S16x2048 := by decide
  rw [hostReduceAdd_apply, Ideal.hostReduceAdd_single _ hr, constant_apply, Ideal.ofBits_zero_f32, zero_add]
  refine Finset.sum_congr rfl fun d _ => congrArg x ?_
  funext a; match a with | ⟨0, _⟩ => rfl | ⟨1, _⟩ => rfl | ⟨2, _⟩ => rfl

theorem sum_b (x : FVec Ideal S1024x256 .f32) (j : Fin 1024) :
    Host.reduceAdd (F := Ideal) (φ := .f32) x (constant S_ .f32 0x00000000#32) reducesTo_S1024x256_S1024_d1 h_S_ (ix1 j : S1024.Idx) = ∑ d : Fin 256, bookR x j d := by
  have hr : S1024x256.Reduces [1] S1024 := by decide
  rw [hostReduceAdd_apply, Ideal.hostReduceAdd_single _ hr, constant_apply, Ideal.ofBits_zero_f32, zero_add]
  refine Finset.sum_congr rfl fun d _ => congrArg x ?_
  funext a; match a with | ⟨0, _⟩ => rfl | ⟨1, _⟩ => rfl

theorem two_r : Ideal.ofBits .f32 0x40000000#32 = 2 := by
  simp [Ideal.ofBits, Ideal.ieee, -EReal.coe_mul]; norm_num; rfl

theorem dot_apply (r : FVec Ideal S16x2048x256 .f32) (B : FVec Ideal S1024x256 .f32) (b : Fin 16) (n : Fin 2048) (j : Fin 1024) :
    Host.dotGeneral dot_S16x2048x256_S256x1024_S16x2048x1024_2_0_01_1_n_n none r (transpose S256x1024 [1, 0] B transposes_S1024x256_S256x1024_1_0) (ix3 b n j : S16x2048x1024.Idx)
      = ∑ d, colR r b n d * bookR B j d := by
  have hr : (dot_S16x2048x256_S256x1024_S16x2048x1024_2_0_01_1_n_n).contr.rank = 1 := rfl
  simp only [Host.dotGeneral]
  rw [Ideal.dotGeneral_apply, ← Equiv.sum_comp (contrEquiv1 (dot_S16x2048x256_S256x1024_S16x2048x1024_2_0_01_1_n_n) 256 hr rfl).symm]
  refine Finset.sum_congr rfl fun d _ => ?_
  have hd := contrEquiv1_symm_val (dot_S16x2048x256_S256x1024_S16x2048x1024_2_0_01_1_n_n) 256 hr rfl d
  refine congrArg₂ (· * ·) (congrArg r ?_) ((transpose_apply _ _ _ _ (ix2 j d : S1024x256.Idx) fun a => ?_))
  · funext a
    apply Fin.ext
    match a with
    | ⟨0, _⟩ => rfl
    | ⟨1, _⟩ => rfl
    | ⟨2, _⟩ => exact hd
  · match a with
    | ⟨0, _⟩ => exact hd.symm
    | ⟨1, _⟩ => rfl

theorem rDist_apply (r : FVec Ideal S16x2048x256 .f32) (B : FVec Ideal S1024x256 .f32) (b : Fin 16) (n : Fin 2048) (j : Fin 1024) :
    rDist r B (ix3 b n j : S16x2048x1024.Idx) = dist (bookR B) (colR r b n) j := by
  unfold rDist dist
  rw [addf_apply, subf_apply, mulf_apply, dot_apply, broadcastInDim_scalar_apply, constant_apply, two_r]
  refine congrArg₂ (· + ·) (congrArg (· - _) ?_) ?_
  · refine Eq.trans ?_ (sum_r (mulf r r) b n)
    refine congrArg (Host.reduceAdd (F := Ideal) (φ := .f32) (mulf r r) (constant S_ .f32 0x00000000#32) reducesTo_S16x2048x256_S16x2048_d2 h_S_) ?_
    funext a; match a with | ⟨0, _⟩ => rfl | ⟨1, _⟩ => rfl
  · refine Eq.trans ?_ (sum_b (mulf B B) j)
    refine congrArg (Host.reduceAdd (F := Ideal) (φ := .f32) (mulf B B) (constant S_ .f32 0x00000000#32) reducesTo_S1024x256_S1024_d1 h_S_) ?_
    funext a; match a with | ⟨0, _⟩ => rfl

theorem inf_r : Ideal.ofBits .f32 0x7F800000#32 = ⊤ := by
  simp [Ideal.ofBits, Ideal.ieee]

/-- The indices that reduce into (`b`, `n`) are the ones that start so. -/
theorem drop_ix3 (b b' : Fin 16) (n n' : Fin 2048) (j : Fin 1024) :
    (reducesTo_S16x2048x1024_S16x2048_d2 : S16x2048x1024.ReducesTo [2] S16x2048).drop (ix3 b n j) = (ix2 b' n' : S16x2048.Idx) ↔ b = b' ∧ n = n' := by
  have e : (reducesTo_S16x2048x1024_S16x2048_d2 : S16x2048x1024.ReducesTo [2] S16x2048).drop (ix3 b n j) = (ix2 b n : S16x2048.Idx) := by
    funext a; match a with | ⟨0, _⟩ => rfl | ⟨1, _⟩ => rfl
  rw [e]
  constructor
  · intro h
    exact ⟨congrFun h 0, congrFun h 1⟩
  · rintro ⟨rfl, rfl⟩; rfl

/-- The pairs that reduce into one place are the ones at the indices that drop to it. -/
theorem mem_fiber {s t : Shape} {axes : List (Fin s.rank)} {α β : Type} (x : s.Idx → α) (y : s.Idx → β) (h : s.ReducesTo axes t) (j : t.Idx) (p : α × β) :
    p ∈ Host.argReduceFiber x y h j ↔ ∃ i, h.drop i = j ∧ p = (x i, y i) := by
  unfold Host.argReduceFiber
  rw [List.mem_map]
  constructor
  · rintro ⟨q, hq, rfl⟩
    exact ⟨_, of_decide_eq_true (List.mem_filter.1 hq).2, rfl⟩
  · rintro ⟨i, hi, rfl⟩
    refine ⟨s.rowMajor i, List.mem_filter.2 ⟨List.mem_finRange _, decide_eq_true ?_⟩, ?_⟩
    · rw [Equiv.symm_apply_apply]; exact hi
    · rw [Equiv.symm_apply_apply]

theorem iota_apply (b : Fin 16) (n : Fin 2048) (j : Fin 1024) : iotaInDim S16x2048x1024 32 2 (ix3 b n j : S16x2048x1024.Idx) = word j :=
  iotaInDim_apply 32 2 _

theorem in_fiber (D : FVec Ideal S16x2048x1024 .f32) (b : Fin 16) (n : Fin 2048) (j : Fin 1024) :
    (D (ix3 b n j : S16x2048x1024.Idx), word j) ∈ Host.argReduceFiber D (iotaInDim S16x2048x1024 32 2) (reducesTo_S16x2048x1024_S16x2048_d2 : S16x2048x1024.ReducesTo [2] S16x2048) (ix2 b n : S16x2048.Idx) :=
  (mem_fiber _ _ _ _ _).2 ⟨ix3 b n j, (drop_ix3 b b n n j).2 ⟨rfl, rfl⟩, by rw [iota_apply]⟩

theorem of_fiber (D : FVec Ideal S16x2048x1024 .f32) (b : Fin 16) (n : Fin 2048) (p : EReal × BitVec 32)
    (hp : p ∈ Host.argReduceFiber D (iotaInDim S16x2048x1024 32 2) (reducesTo_S16x2048x1024_S16x2048_d2 : S16x2048x1024.ReducesTo [2] S16x2048) (ix2 b n : S16x2048.Idx)) :
    ∃ k, p = (D (ix3 b n k : S16x2048x1024.Idx), word k) := by
  obtain ⟨i, hi, rfl⟩ := (mem_fiber _ _ _ _ _).1 hp
  obtain ⟨b', n', j, rfl⟩ : ∃ b' n' j, i = (ix3 b' n' j : S16x2048x1024.Idx) := ⟨i 0, i 1, i 2, eq_ix3 i⟩
  obtain ⟨rfl, rfl⟩ := (drop_ix3 b' b n' n j).1 hi
  exact ⟨j, by rw [iota_apply]⟩

/-- The pairs that reduce into place `i`. -/
abbrev pairs (D : FVec Ideal S16x2048x1024 .f32) (i : S16x2048.Idx) : List (EReal × BitVec 32) :=
  Host.argReduceFiber D (iotaInDim S16x2048x1024 32 2) (reducesTo_S16x2048x1024_S16x2048_d2 : S16x2048x1024.ReducesTo [2] S16x2048) i

theorem rLeast_eq (D : FVec Ideal S16x2048x1024 .f32) (i : S16x2048.Idx) : rLeast D i =
    (pairs D i).foldl (reducer_argmin_f32_i32 (F := Ideal)) (constant (F := Ideal) S_ .f32 0x7F800000#32 (Shape.Idx.first h_S_), 0#32) := by
  unfold rLeast
  rw [Ideal.argReduce_eq_reduce2]
  exact Host.reduce2_eq_foldl_fiber _ _ _ _ _ _ _ i

theorem fold_snd (f : Fin 1024 → EReal) (L : List (EReal × BitVec 32)) (a : EReal) (ha : a = ⊤)
    (h1 : ∀ k, (f k, word k) ∈ L) (h2 : ∀ p ∈ L, ∃ k, p = (f k, word k)) :
    (L.foldl (reducer_argmin_f32_i32 (F := Ideal)) (a, 0#32)).2 = word (first f) := by
  subst ha; exact foldl_first f L h1 h2

/-- The place of the least distance is the first codeword nearest. -/
theorem rLeast_apply (D : FVec Ideal S16x2048x1024 .f32) (b : Fin 16) (n : Fin 2048) :
    (rLeast D (ix2 b n : S16x2048.Idx)).2 = word (first fun j => D (ix3 b n j : S16x2048x1024.Idx)) :=
  (congrArg Prod.snd (rLeast_eq D (ix2 b n))).trans
    (fold_snd (fun j => D (ix3 b n j : S16x2048x1024.Idx)) (pairs D (ix2 b n)) _ inf_r (fun j => in_fiber D b n j) (fun p hp => of_fiber D b n p hp))

theorem rPlace_apply (c : S16x2048.Idx → BitVec 32) (b : Fin 16) (n : Fin 2048) (z : Fin 1) (k : Fin 1024) (h : c (ix2 b n : S16x2048.Idx) = word k) :
    rPlace c (ix3 b n z : S16x2048x1.Idx) = word k := by
  have hz : (broadcastInDim S16x2048 ![] bcast_S_S16x2048 (constantI S_ 32 0#32) : S16x2048.Idx → BitVec 32) = constantI S16x2048 32 0#32 := rfl
  unfold rPlace
  rw [hz]
  refine Eq.trans ?_ ((select_slt_zero_of_nonneg c (addi c (broadcastInDim S16x2048 ![] bcast_S_S16x2048 (constantI S_ 32 1024#32))) c (ix2 b n : S16x2048.Idx) (by rw [h, word_toInt]; omega)).trans h)
  refine congrArg (select (cmpi .slt c (constantI S16x2048 32 0#32)) (addi c (broadcastInDim S16x2048 ![] bcast_S_S16x2048 (constantI S_ 32 1024#32))) c) ?_
  funext a; match a with | ⟨0, _⟩ => rfl | ⟨1, _⟩ => rfl

theorem mask_word (k : Fin 1024) : IntOp.andi (IntOp.cmpi .sge (word k) 0#32) (IntOp.cmpi .sle (word k) 1023#32) = 1#1 := by
  have hk := k.isLt
  have h1 : (word k).toInt = k.val := word_toInt k
  have e1 : (0#32 : BitVec 32).sle (word k) = true := by simp only [BitVec.sle, decide_eq_true_eq]; rw [h1]; simp
  have e2 : (word k).sle 1023#32 = true := by
    simp only [BitVec.sle, decide_eq_true_eq]; rw [h1]
    have : (1023#32 : BitVec 32).toInt = 1023 := by decide
    omega
  show (BitVec.ofBool ((0#32 : BitVec 32).sle (word k))) &&& BitVec.ofBool ((word k).sle 1023#32) = 1#1
  rw [e1, e2]; rfl

theorem gather_apply (B : FVec Ideal S1024x256 .f32) (p : S16x2048x1.Idx → BitVec 32) (b : Fin 16) (n : Fin 2048) (d : Fin 256) (k : Fin 1024)
    (h : p (ix3 b n 0 : S16x2048x1.Idx) = word k) :
    Host.gather gather_S1024x256_S16x2048x1_S16x2048x256_2_0_n_n_0_2_1256 B p (ix3 b n d : S16x2048x256.Idx) = B (ix2 k d : S1024x256.Idx) := by
  have hk := k.isLt
  unfold Host.gather
  refine congrArg B ?_
  funext a
  refine Fin.ext ?_
  show (gather_S1024x256_S16x2048x1_S16x2048x256_2_0_n_n_0_2_1256).start (ix3 b n d) p a + (gather_S1024x256_S16x2048x1_S16x2048x256_2_0_n_n_0_2_1256).batchCoord (ix3 b n d) a
      + (gather_S1024x256_S16x2048x1_S16x2048x256_2_0_n_n_0_2_1256).offCoord (ix3 b n d) a = _
  rw [GatherDims.batchCoord_eq_zero _ _ _ (fun hm => by simp [gather_S1024x256_S16x2048x1_S16x2048x256_2_0_n_n_0_2_1256] at hm), Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun hm => ((GatherDims.mem_sKept _ _).mp hm).1 (List.mem_singleton.mpr rfl)), Nat.add_zero]
    unfold GatherDims.start
    rw [dif_pos (show (0 : Fin 2) ∈ (gather_S1024x256_S16x2048x1_S16x2048x256_2_0_n_n_0_2_1256).startIndexMap from List.mem_singleton.mpr rfl)]
    have hsi : (gather_S1024x256_S16x2048x1_S16x2048x256_2_0_n_n_0_2_1256).siIdx (ix3 b n d) ⟨List.idxOf (0 : Fin 2) (gather_S1024x256_S16x2048x1_S16x2048x256_2_0_n_n_0_2_1256).startIndexMap,
        List.idxOf_lt_length_iff.2 (List.mem_singleton.mpr rfl)⟩ = (ix3 b n 0 : S16x2048x1.Idx) := by
      funext e; refine Fin.ext ?_
      match e with
      | ⟨0, _⟩ => rfl
      | ⟨1, _⟩ => rfl
      | ⟨2, _⟩ => rfl
    rw [hsi, h, word_toInt]
    show min (k.val : ℤ).toNat (1024 - 1) = k.val
    omega
  · unfold GatherDims.start
    rw [dif_neg (show (1 : Fin 2) ∉ (gather_S1024x256_S16x2048x1_S16x2048x256_2_0_n_n_0_2_1256).startIndexMap from by decide), Nat.zero_add]
    rfl

theorem rTake_apply (B : FVec Ideal S1024x256 .f32) (c : S16x2048.Idx → BitVec 32) (k : Fin 16 → Fin 2048 → Fin 1024)
    (h : ∀ b n, c (ix2 b n : S16x2048.Idx) = word (k b n)) (b : Fin 16) (n : Fin 2048) (d : Fin 256) :
    rTake B c (ix3 b n d : S16x2048x256.Idx) = bookR B (k b n) d := by
  have hm : ∀ i, rMask (rPlace c) i = 1#1 := fun i => by
    obtain ⟨b', n', z, rfl⟩ : ∃ b' n' z, i = (ix3 b' n' z : S16x2048x1.Idx) := ⟨i 0, i 1, i 2, eq_ix3 i⟩
    have e : rMask (rPlace c) (ix3 b' n' z) = IntOp.andi (IntOp.cmpi .sge (rPlace c (ix3 b' n' z)) 0#32) (IntOp.cmpi .sle (rPlace c (ix3 b' n' z)) 1023#32) := rfl
    rw [e, rPlace_apply c b' n' z (k b' n') (h b' n')]
    exact mask_word _
  have hall : Host.reduce IntOp.andi (rMask (rPlace c)) (constantI S_ 1 1#1) reducesTo_S16x2048x1_S16x2048_d2 h_S_ = constantI S16x2048 1 1#1 :=
    funext fun i => Host.reduce_andi_one _ _ _ _ _ rfl hm
  unfold rTake
  rw [hall]
  exact gather_apply B (rPlace c) b n d (k b n) (rPlace_apply c b n 0 (k b n) (h b n))

theorem lit_n_r : Ideal.ofBits .f32 0x4B000000#32 = ((8388608 : ℝ) : EReal) := by
  simp [Ideal.ofBits, Ideal.ieee, -EReal.coe_mul]

theorem lit_14 : Ideal.ofBits .f32 0x3E800000#32 = ((1 / 4 : ℝ) : EReal) := by
  simp [Ideal.ofBits, Ideal.ieee, -EReal.coe_mul]; norm_num

theorem lit_1 : Ideal.ofBits .f32 0x3F800000#32 = 1 := by
  simp [Ideal.ofBits, Ideal.ieee, -EReal.coe_mul]; norm_num

theorem lit_8_r : Ideal.ofBits .f32 0x41000000#32 = ((8 : ℝ) : EReal) := by
  simp [Ideal.ofBits, Ideal.ieee, -EReal.coe_mul]; norm_num

/-- A sum over all places of a residual. -/
theorem sum_all (x : S16x2048x256.Idx → EReal) (i : S_.Idx) :
    Host.reduceAdd (F := Ideal) (φ := .f32) x (constant S_ .f32 0x00000000#32) reducesTo_S16x2048x256_S_d0_1_2 h_S_ i
      = ∑ b : Fin 16, ∑ n : Fin 2048, ∑ d : Fin 256, x (ix3 b n d) := by
  rw [hostReduceAdd_apply, Ideal.hostReduceAdd_total _ (by decide), constant_apply, Ideal.ofBits_zero_f32, zero_add]
  exact sum_places x

theorem rMean_apply (r q : FVec Ideal S16x2048x256 .f32) (i : S_.Idx) :
    rMean r q i = Ideal.div (∑ b : Fin 16, ∑ n : Fin 2048, ∑ d : Fin 256, (q (ix3 b n d) - r (ix3 b n d)) * (q (ix3 b n d) - r (ix3 b n d))) ((8388608 : ℝ) : EReal) := by
  unfold rMean
  rw [hostDivf_apply, sum_all, constant_apply, lit_n_r]
  rfl

theorem rLoss_apply (r q : FVec Ideal S16x2048x256 .f32) (i : S_.Idx) :
    rLoss r q i = Ideal.div (((5 / 4 : ℝ) : EReal) * ∑ b : Fin 16, ∑ n : Fin 2048, ∑ d : Fin 256, (q (ix3 b n d) - r (ix3 b n d)) * (q (ix3 b n d) - r (ix3 b n d))) ((8388608 : ℝ) : EReal) := by
  unfold rLoss
  rw [addf_apply, mulf_apply, mulf_apply, rMean_apply, constant_apply, constant_apply, lit_14, lit_1]
  exact loss_eq (Finset.sum_nonneg fun _ _ => Finset.sum_nonneg fun _ _ => Finset.sum_nonneg fun _ _ => sq_nonneg' _)

theorem rPutCodes_apply (A : S8x16x2048.Idx → BitVec 32) (c : S16x2048.Idx → BitVec 32) (k q : Fin 8) (b : Fin 16) (n : Fin 2048) :
    rPutCodes A c (ctr k) (ix3 q b n : S8x16x2048.Idx) = if q = k then c (ix2 b n : S16x2048.Idx) else A (ix3 q b n : S8x16x2048.Idx) := by
  have hk := k.isLt
  have hb := b.isLt
  have hn := n.isLt
  have hs : S8x16x2048.Slices (![k.val, 0, 0] : Fin 3 → ℕ) S1x16x2048 := ⟨rfl, fun a => by
    match a with
    | ⟨0, _⟩ => exact hk
    | ⟨1, _⟩ => exact Nat.le_refl _
    | ⟨2, _⟩ => exact Nat.le_refl _⟩
  unfold rPutCodes
  rw [WordCmp.dynamicUpdateSlice_eq_update A _ _ _ _ hs (starts3_ctr k)]
  unfold updateSlice
  by_cases h : q = k
  · subst h
    rw [if_pos rfl, dif_pos fun a => ?_]
    · refine congrArg c ?_
      funext a; match a with | ⟨0, _⟩ => rfl | ⟨1, _⟩ => rfl
    · match a with
      | ⟨0, _⟩ => exact ⟨Nat.le_refl _, Nat.lt_succ_self _⟩
      | ⟨1, _⟩ => exact ⟨Nat.zero_le _, by show b.val < 0 + 16; omega⟩
      | ⟨2, _⟩ => exact ⟨Nat.zero_le _, by show n.val < 0 + 2048; omega⟩
  · rw [if_neg h, dif_neg fun hin => h ?_]
    have h0 := hin ⟨0, by decide⟩
    have h1 : k.val ≤ q.val := h0.1
    have h2 : q.val < k.val + 1 := h0.2
    exact Fin.ext (by omega)

theorem rPutLoss_apply (A : FVec Ideal S8 .f32) (l : FVec Ideal S_ .f32) (k q : Fin 8) :
    rPutLoss A l (ctr k) (ix1 q : S8.Idx) = if q = k then l ix0 else A (ix1 q : S8.Idx) := by
  have hk := k.isLt
  have hs : S8.Slices (![k.val] : Fin 1 → ℕ) S1 := ⟨rfl, fun a => by
    match a with
    | ⟨0, _⟩ => exact hk⟩
  unfold rPutLoss
  rw [WordCmp.dynamicUpdateSlice_eq_update A _ _ _ _ hs (starts1_ctr k)]
  unfold updateSlice
  by_cases h : q = k
  · subst h
    rw [if_pos rfl, dif_pos fun a => ?_]
    · exact broadcastInDim_scalar_apply _ _ _
    · match a with
      | ⟨0, _⟩ => exact ⟨Nat.le_refl _, Nat.lt_succ_self _⟩
  · rw [if_neg h, dif_neg fun hin => h ?_]
    have h0 := hin ⟨0, by decide⟩
    have h1 : k.val ≤ q.val := h0.1
    have h2 : q.val < k.val + 1 := h0.2
    exact Fin.ext (by omega)

end Cert.Rvq.Ref
-- ==== Proof.RInv.lean ====
/- WHAT THE LOOP'S BUFFERS HOLD BEFORE EVERY TRIP: the residual, the sum of what was added, and the codes and losses so
   far. It holds on entry, a trip keeps it, so it holds after the eighth. -/
module

public import proofs.«01_k».proof.Proof.RTrip
public import proofs.«01_k».proof.Proof.RRead
public import proofs.«01_k».proof.Proof.Results

@[expose] public section

set_option maxRecDepth 100000

noncomputable section

namespace Cert.Rvq.Ref

open Idealize.ShloMosaic Idealize.ShloMosaic.TcCoe Idealize.ShloMosaic.Tactic Idealize.ShloMosaic.StableHlo
open Idealize.ShloMosaic.ValueIdx
open Idealize.SL Idealize.SL.Sem
open Cert.ReferenceIdeal Cert.ReferenceIdeal.Gen Cert.ReferenceIdeal.Value

/-- The residual that the buffers hold. -/
abbrev resIn (V : Valuation τ sig (Elt Ideal)) : FVec Ideal S16x2048x256 .f32 := V (Proc.devRef .tc main_v4_2)
/-- The sum of what was added. -/
abbrev accIn (V : Valuation τ sig (Elt Ideal)) : FVec Ideal S16x2048x256 .f32 := V (Proc.devRef .tc main_v4_3)
/-- The codes. -/
abbrev codesIn (V : Valuation τ sig (Elt Ideal)) : S8x16x2048.Idx → BitVec 32 := V (Proc.devRef .tc main_v4_4)
/-- The losses. -/
abbrev lossesIn (V : Valuation τ sig (Elt Ideal)) : FVec Ideal S8 .f32 := V (Proc.devRef .tc main_v4_5)

/-- Before trip `k`: the residual and the sum are those before quantizer `k`; the codes and losses of the quantizers before
    `k` are in place. -/
structure Holds (X : XArr) (C : CArr) (k : ℕ) (V : Valuation τ sig (Elt Ideal)) : Prop where
  res : ∀ b n d, resIn V (ix3 b n d) = res (book C) (column X b n) k d
  acc : ∀ b n d, accIn V (ix3 b n d) = acc (book C) (column X b n) k d
  codes : ∀ q : Fin 8, q.val < k → ∀ b n, codesIn V (ix3 q b n) = word (code (book C) (column X b n) q.val)
  losses : ∀ q : Fin 8, q.val < k → lossesIn V (ix1 q) = lossAt X C q.val

section Trip

variable {X : XArr} {C : CArr} {k : Fin 8} {V : Valuation τ sig (Elt Ideal)} (hc : V (Proc.devRef .tc main_v4_0) = C)
  (hk : V (Proc.devRef .tc main_v4_1) = ctr k.val) (h : Holds X C k.val V)

include hc hk in
/-- The trip's codebook. -/
theorem trip_book : bookR (tBook V) = book C k.val := by
  unfold tBook
  rw [hc, hk]
  funext j d
  exact rBook_apply C k j d

include h in
theorem trip_col (b : Fin 16) (n : Fin 2048) : colR (resIn V) b n = Cert.Rvq.res (book C) (column X b n) k.val :=
  funext fun d => h.res b n d

include hc hk h in
/-- The trip's code at a column. -/
theorem trip_code (b : Fin 16) (n : Fin 2048) : (tLeast V (ix2 b n : S16x2048.Idx)).2 = word (code (book C) (column X b n) k.val) := by
  unfold tLeast code
  refine (rLeast_apply _ b n).trans (congrArg (fun f => word (first f)) (funext fun j => ?_))
  refine (rDist_apply _ _ b n j).trans ?_
  rw [trip_book hc hk]
  exact congrArg (fun r => dist (book C k.val) r j) (trip_col h b n)

include hc hk h in
/-- The trip's row at a column. -/
theorem trip_take (b : Fin 16) (n : Fin 2048) (d : Fin 256) :
    tTake V (ix3 b n d : S16x2048x256.Idx) = pick (book C k.val) (Cert.Rvq.res (book C) (column X b n) k.val) d := by
  refine (rTake_apply (tBook V) (fun j => (tLeast V j).2) (fun b n => code (book C) (column X b n) k.val) (trip_code hc hk h) b n d).trans ?_
  rw [trip_book hc hk]
  rfl

include hc hk h in
theorem trip_through (b : Fin 16) (n : Fin 2048) (d : Fin 256) :
    rThrough (resIn V) (tTake V) (ix3 b n d : S16x2048x256.Idx)
      = through (Cert.Rvq.res (book C) (column X b n) k.val d) (pick (book C k.val) (Cert.Rvq.res (book C) (column X b n) k.val) d) := by
  unfold rThrough through
  rw [addf_apply, subf_apply, trip_take hc hk h, h.res]

include hc hk h in
theorem trip_sq (b : Fin 16) (n : Fin 2048) (d : Fin 256) :
    (tTake V (ix3 b n d : S16x2048x256.Idx) - resIn V (ix3 b n d)) * (tTake V (ix3 b n d : S16x2048x256.Idx) - resIn V (ix3 b n d)) = sqDiff X C k.val d b n := by
  rw [trip_take hc hk h, h.res]
  rfl

include hc hk h in
theorem trip_total : (∑ b : Fin 16, ∑ n : Fin 2048, ∑ d : Fin 256,
    (tTake V (ix3 b n d : S16x2048x256.Idx) - resIn V (ix3 b n d)) * (tTake V (ix3 b n d : S16x2048x256.Idx) - resIn V (ix3 b n d))) = total X C k.val :=
  Finset.sum_congr rfl fun b _ => Finset.sum_congr rfl fun n _ => Finset.sum_congr rfl fun d _ => trip_sq hc hk h b n d

include hc hk h in
theorem trip_loss : rLoss (resIn V) (tTake V) ix0 = lossAt X C k.val := by
  refine (rLoss_apply _ _ _).trans ?_
  unfold lossAt
  rw [trip_total hc hk h]

include hc hk h in
/-- A trip keeps it, one quantizer on. -/
theorem holds_next : Holds X C (k.val + 1) (afterL bodyI (after condOps V)) where
  res b n d := by
    refine (congrFun (trip_res V) (ix3 b n d)).trans ?_
    rw [subf_apply]
    exact congrArg₂ (· - ·) (h.res b n d) (trip_through hc hk h b n d)
  acc b n d := by
    refine (congrFun (trip_acc V) (ix3 b n d)).trans ?_
    rw [addf_apply]
    exact congrArg₂ (· + ·) (h.acc b n d) (trip_through hc hk h b n d)
  codes q hq b n := by
    refine (congrFun (trip_codes V) (ix3 q b n)).trans ?_
    rw [hk]
    refine (rPutCodes_apply _ _ k q b n).trans ?_
    split
    · next e => subst e; exact trip_code hc hk h b n
    · next e => exact h.codes q (lt_of_le_of_ne (Nat.le_of_lt_succ hq) fun e' => e (Fin.ext e')) b n
  losses q hq := by
    refine (congrFun (trip_losses V) (ix1 q)).trans ?_
    rw [hk]
    refine (rPutLoss_apply _ _ k q).trans ?_
    split
    · next e => subst e; exact trip_loss hc hk h
    · next e => exact h.losses q (lt_of_le_of_ne (Nat.le_of_lt_succ hq) fun e' => e (Fin.ext e'))

end Trip

/-! ## On entry -/

variable (V : Valuation τ sig (Elt Ideal))

theorem in_book : after hostOps0 V (Proc.devRef .tc main_v4_0) = V (Proc.devRef .tc main_arg1) := by
  after_results
  rfl

theorem in_res : after hostOps0 V (Proc.devRef .tc main_v4_2)
    = transpose S16x2048x256 [0, 2, 1] (V (Proc.devRef .tc main_arg0) : S16x256x2048.Idx → EReal) transposes_S16x256x2048_S16x2048x256_0_2_1 := by
  after_results
  rfl

theorem in_acc : after hostOps0 V (Proc.devRef .tc main_v4_3)
    = broadcastInDim S16x2048x256 ![] bcast_S_S16x2048x256 (constant (F := Ideal) S_ .f32 0x00000000#32) := by
  after_results
  rfl

theorem holds_entry : Holds (V (Proc.devRef .tc main_arg0)) (V (Proc.devRef .tc main_arg1)) 0 (after hostOps0 V) where
  res b n d := by
    refine (congrFun (in_res V) (ix3 b n d)).trans ?_
    exact transpose_apply _ _ _ _ (ix3 b d n : S16x256x2048.Idx) fun a => match a with | ⟨0, _⟩ => rfl | ⟨1, _⟩ => rfl | ⟨2, _⟩ => rfl
  acc b n d := by
    refine (congrFun (in_acc V) (ix3 b n d)).trans ?_
    rw [broadcastInDim_scalar_apply, constant_apply, Ideal.ofBits_zero_f32]
    rfl
  codes q hq := absurd hq (Nat.not_lt_zero _)
  losses q hq := absurd hq (Nat.not_lt_zero _)

/-! ## Before every trip -/

variable (m : (ℓ : Loc nD τ sig) → Buf (Elt Ideal) ℓ)

/-- The input's array on a device. -/
abbrev argX (c : Dev nD) : XArr := m ((c.tc : Thread nD τ).loc main_arg0)
/-- The codebooks' array on a device. -/
abbrev argC (c : Dev nD) : CArr := m ((c.tc : Thread nD τ).loc main_arg1)

theorem atK_book (c : Dev nD) (k : ℕ) : atK m k c (Proc.devRef .tc main_v4_0) = argC m c := by
  rw [atK_keeps m c (by decide +kernel) k]
  simp only [entryContents, afterL_cons, afterL_nil]
  exact in_book _

theorem iv_eq (k : ℕ) : Scf.iv 0#32 1#32 k = BitVec.ofNat 32 k := by simp [Scf.iv]

theorem atK_ctr' (c : Dev nD) (k : ℕ) : atK m k c (Proc.devRef .tc main_v4_1) = ctr k := by
  rw [atK_ctr, iv_eq]
  rfl

/-- Before trip `k`, for every `k` up to the end. -/
theorem holds (c : Dev nD) : ∀ k, k ≤ 8 → Holds (argX m c) (argC m c) k (atK m k c)
  | 0, _ => by
    show Holds _ _ 0 (entryContents preI m c)
    simp only [entryContents, afterL_cons, afterL_nil]
    exact holds_entry (launchContents m c)
  | k + 1, hk => holds_next (k := ⟨k, hk⟩) (atK_book m c k) (atK_ctr' m c k) (holds c k (Nat.le_of_succ_le hk))

end Cert.Rvq.Ref

end
-- ==== Proof.RRun.lean ====
/- THE REFERENCE'S RUN, READ: each of the four results as its function of the arguments, the arguments unchanged. -/
module

public import proofs.«01_k».proof.Proof.RInv

@[expose] public section

set_option maxRecDepth 100000

noncomputable section

namespace Cert.Rvq.Ref

open Idealize.ShloMosaic Idealize.ShloMosaic.TcCoe Idealize.ShloMosaic.Tactic Idealize.ShloMosaic.StableHlo
open Idealize.ShloMosaic.ValueIdx
open Idealize.SL Idealize.SL.Sem
open Cert.ReferenceIdeal Cert.ReferenceIdeal.Gen Cert.ReferenceIdeal.Value

/-! ## The host's last lines, from any buffers -/

section Tail

variable (V : Valuation τ sig (Elt Ideal))

theorem out_quant : after hostOps0_1 V (Proc.devRef .tc main_v5)
    = transpose S16x256x2048 [0, 2, 1] (accIn V) transposes_S16x2048x256_S16x256x2048_0_2_1 := by
  after_results

theorem out_bw : after hostOps0_1 V (Proc.devRef .tc main_v9) = bwOf (V (Proc.devRef .tc main_arg2)) := by
  after_results
  rfl

theorem out_loss : after hostOps0_1 V (Proc.devRef .tc main_v11)
    = Host.divf (F := Ideal) (φ := .f32) (Host.reduceAdd (F := Ideal) (φ := .f32) (lossesIn V) (constant S_ .f32 0x00000000#32) reducesTo_S8_S_d0 h_S_) (constant S_ .f32 0x41000000#32) := by
  after_results

end Tail

/-- A sum over the 8 quantizers. -/
theorem sum_losses (x : S8.Idx → EReal) (j : S_.Idx) :
    Host.reduceAdd (F := Ideal) (φ := .f32) x (constant S_ .f32 0x00000000#32) reducesTo_S8_S_d0 h_S_ j = ∑ k : Fin 8, x (ix1 k) := by
  rw [hostReduceAdd_apply, Ideal.hostReduceAdd_total _ (by decide), constant_apply, Ideal.ofBits_zero_f32, zero_add]
  exact sum_line x

/-- The mean of the losses. -/
theorem mean_losses {X : XArr} {C : CArr} {x : FVec Ideal S8 .f32} (h : ∀ k : Fin 8, x (ix1 k) = lossAt X C k.val) :
    Host.divf (F := Ideal) (φ := .f32) (Host.reduceAdd (F := Ideal) (φ := .f32) x (constant S_ .f32 0x00000000#32) reducesTo_S8_S_d0 h_S_) (constant S_ .f32 0x41000000#32)
      = lossOf X C := by
  funext i
  unfold lossOf
  rw [hostDivf_apply, sum_losses, constant_apply, lit_8_r]
  exact congrArg (fun s => Ideal.div s _) (Finset.sum_congr rfl fun k _ => h k)

/-! ## The four results -/

variable (m : (ℓ : Loc nD τ sig) → Buf (Elt Ideal) ℓ) (ρ : Dev nD → PrngReg)

/-- The buffers when the loop is over. -/
def atEnd (c : Dev nD) : Valuation τ sig (Elt Ideal) := after condOps (atK m 8 c)

theorem end_eq (c : Dev nD) {r : Ref sig .tc} (h : r ∉ condOps_W) : atEnd m c (Proc.devRef .tc r) = atK m 8 c (Proc.devRef .tc r) :=
  after_of_writes_sub _ _ condOps_writes h

theorem final_eq (c : Dev nD) (r : Ref sig .tc) :
    finalContents condOps preI bodyI postI 8 m c (Proc.devRef .tc r) = after hostOps0_1 (atEnd m c) (Proc.devRef .tc r) := by
  show afterL postI (after condOps (atK m 8 c)) (Proc.devRef .tc r) = _
  simp only [afterL_cons, afterL_nil]
  rfl

theorem final_quant (c : Dev nD) (h : ∀ i, Fin' (argC m c i)) :
    finalContents condOps preI bodyI postI 8 m c (Proc.devRef .tc main_v5) = quantOf (argX m c) (argC m c) := by
  refine (final_eq m c main_v5).trans ((out_quant _).trans ?_)
  funext i
  refine (transpose_apply _ _ _ _ (ix3 (i 0) (i 2) (i 1) : S16x2048x256.Idx) fun a => match a with | ⟨0, _⟩ => rfl | ⟨1, _⟩ => rfl | ⟨2, _⟩ => rfl).trans ?_
  refine (congrFun (end_eq m c (r := main_v4_3) (by decide +kernel)) _).trans ?_
  refine ((holds m c 8 le_rfl).acc (i 0) (i 2) (i 1)).trans ?_
  refine (acc_eq (CB := book (argC m c)) (fun n j d => h _) (column (argX m c) (i 0) (i 2)) (i 1) 7).trans ?_
  exact congrArg (fun x => x - Cert.Rvq.res (book (argC m c)) (column (argX m c) (i 0) (i 2)) 8 (i 1)) (congrArg (argX m c) (eq_ix3 i).symm)

theorem final_codes (c : Dev nD) :
    finalContents condOps preI bodyI postI 8 m c (Proc.devRef .tc main_v4_4) = codesOf (argX m c) (argC m c) := by
  refine (final_eq m c main_v4_4).trans ((after_of_writes_sub _ _ hostOps0_1_writes (by decide +kernel)).trans ?_)
  refine (end_eq m c (r := main_v4_4) (by decide +kernel)).trans ?_
  funext i
  refine (congrArg (codesIn (atK m 8 c)) (eq_ix3 i)).trans ?_
  exact (holds m c 8 le_rfl).codes (i 0) (i 0).isLt (i 1) (i 2)

theorem final_bw (c : Dev nD) :
    finalContents condOps preI bodyI postI 8 m c (Proc.devRef .tc main_v9) = bwOf (m ((c.tc : Thread nD τ).loc main_arg2)) := by
  refine (final_eq m c main_v9).trans ((out_bw _).trans (congrArg bwOf ?_))
  refine (end_eq m c (r := main_arg2) (by decide +kernel)).trans ?_
  rw [atK_keeps m c (by decide +kernel) 8]
  simp only [entryContents, afterL_cons, afterL_nil]
  exact after_of_writes_sub _ _ hostOps0_writes (by decide +kernel)

theorem final_loss (c : Dev nD) :
    finalContents condOps preI bodyI postI 8 m c (Proc.devRef .tc main_v11) = lossOf (argX m c) (argC m c) := by
  refine (final_eq m c main_v11).trans ((out_loss _).trans (mean_losses fun k => ?_))
  refine (congrFun (end_eq m c (r := main_v4_5) (by decide +kernel)) (ix1 k : S8.Idx)).trans ?_
  exact (holds m c 8 le_rfl).losses k k.isLt

/-- The run, read. -/
theorem run (h : ∀ c i, Fin' (argC m c i)) : θ_run defs (onTc (τ := τ) (main (F := Ideal))) ⟨m, fun _ => 0, ρ⟩ fun r => ∀ c : Dev nD,
      (r.2.mem ((c.tc : Thread nD τ).loc main_v5) = quantOf (argX m c) (argC m c)
      ∧ r.2.mem ((c.tc : Thread nD τ).loc main_v4_4) = codesOf (argX m c) (argC m c)
      ∧ r.2.mem ((c.tc : Thread nD τ).loc main_v9) = bwOf (m ((c.tc : Thread nD τ).loc main_arg2))
      ∧ r.2.mem ((c.tc : Thread nD τ).loc main_v11) = lossOf (argX m c) (argC m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c => ⟨⟨(hr c main_v5 rfl).trans (final_quant m c (h c)), (hr c main_v4_4 rfl).trans (final_codes m c),
      (hr c main_v9 rfl).trans (final_bw m c), (hr c main_v11 rfl).trans (final_loss m c)⟩,
    (hr c main_arg0 rfl).trans (final_arg0 m c), (hr c main_arg1 rfl).trans (final_arg1 m c), (hr c main_arg2 rfl).trans (final_arg2 m c)⟩)
    (run_fold m ρ)

end Cert.Rvq.Ref

end
-- ==== Proof.Finite.lean ====
/- THE PRECONDITION, READ: a codebook entry whose absolute value is below infinity is a real number. -/
module

public import proofs.«01_k».proof.Pre_codebooks_finite
public import proofs.«01_k».proof.Proof.Spec
public import Idealize.ShloMosaic.Lib.ValueIdx

@[expose] public section

noncomputable section

namespace Cert.Rvq

open Idealize.ShloMosaic Idealize.ShloMosaic.ValueIdx

/-- The word of infinity is `⊤`. -/
theorem lit_inf : Ideal.ofBits .f32 0x7F800000#32 = ⊤ := by
  simp [Ideal.ofBits, Ideal.ieee]

/-- What is below infinity in absolute value is real. -/
theorem real_of_abs {x : EReal} (h : Ideal.cmp .olt (max x (-x)) ⊤ = 1#1) : Fin' x := by
  constructor
  · rintro rfl; simp [Ideal.cmp] at h
  · rintro rfl; simp [Ideal.cmp] at h

/-- Where the precondition holds every codebook entry is real. -/
theorem real_of_pre [Cert.Pre_codebooks_finite.Facts] (X : FVec Ideal Cert.Pre_codebooks_finite.S16x256x2048 .f32)
    (C : FVec Ideal Cert.Pre_codebooks_finite.S8x1024x256 .f32) (s : IVec Cert.Pre_codebooks_finite.S_ 32)
    (h : ∀ i, Cert.Pre_codebooks_finite.fn (F := Ideal) X C s i = 1#1) (i : Cert.Pre_codebooks_finite.S8x1024x256.Idx) : Fin' (C i) := by
  have hi : Ideal.cmp .olt (max (C i) (-(C i))) (Ideal.ofBits .f32 0x7F800000#32) = 1#1 := h i
  rw [lit_inf] at hi
  exact real_of_abs hi

end Cert.Rvq

end
-- ==== Proof.lean ====
/- THE CERTIFICATE: the kernel, its idealization and the reference run to their end and leave their arguments as they were;
   the idealization rewrote nothing; and over the extended reals, with real codebooks, the kernel's four results are the
   reference's. Both runs are read as the functions of `Results`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import proofs.«01_k».proof.Proof.KRun
public import proofs.«01_k».proof.Proof.RRun
public import proofs.«01_k».proof.Proof.Finite
public import Idealize.ShloMosaic.Adequacy
public import Idealize.ShloMosaic.Init

@[expose] public section

noncomputable section

namespace Cert.Proof

open Idealize.ShloMosaic Idealize.SL.Sem Cert.Rvq

/-- The precondition's own shape relation. -/
theorem finite_facts : Cert.Pre_codebooks_finite.Facts := ⟨by decide⟩

/-- Over the extended reals, with real codebooks, the kernel's four results are the reference's. -/
theorem algebraic : algebraic_KernelIdeal_ReferenceIdeal_pre_codebooks_finite (hKernelIdeal := Cert.KernelIdeal.Gen.facts)
    (hReferenceIdeal := Cert.ReferenceIdeal.Gen.facts) (hPre_codebooks_finite := finite_facts) := by
  intro m g m' g' hpre hargs
  have hC : ∀ c i, Fin' (K.argC m c i) := fun c i =>
    @real_of_pre finite_facts _ _ _ (fun i => congrFun (hpre c) i) i
  have eX : ∀ c, Ref.argX m' c = K.argX m c := fun c => (hargs c).1
  have eC : ∀ c, Ref.argC m' c = K.argC m c := fun c => (hargs c).2.1
  have hC' : ∀ c i, Fin' (Ref.argC m' c i) := fun c i => by rw [eC c]; exact hC c i
  refine ⟨fun c => quantOf (K.argX m c) (K.argC m c), fun c => codesOf (K.argX m c) (K.argC m c),
    fun c => bwOf (m ((c.tc : Thread Cert.KernelIdeal.nD Cert.KernelIdeal.τ).loc Cert.KernelIdeal.main_arg2)),
    fun c => lossOf (K.argX m c) (K.argC m c), ?_, ?_⟩
  · refine (θ_run _ _ _).mono (fun r h c => ?_) (K.run m g hC)
    obtain ⟨⟨h0, h1, h2, h3⟩, h4, h5, h6⟩ := h c
    exact ⟨h0, h1, h2, h3, h4, h5, h6⟩
  · refine (θ_run _ _ _).mono (fun r h c => ?_) (Ref.run m' g' hC')
    obtain ⟨⟨h0, h1, h2, h3⟩, h4, h5, h6⟩ := h c
    rw [eX c, eC c] at h0 h1 h3
    rw [(hargs c).2.2] at h2
    exact ⟨h0, h1, h2, h3, h4, h5, h6⟩

/-- Everything claimed. -/
theorem claim : Cert.Claim := ⟨Cert.Kernel.Gen.facts, Cert.KernelIdeal.Gen.facts, Cert.ReferenceIdeal.Gen.facts, finite_facts,
  fun m ρ _ => Cert.Kernel.Gen.frame m ρ, fun m ρ _ => Cert.KernelIdeal.Gen.frame m ρ, fun m ρ _ => Cert.KernelIdeal.Gen.frame m ρ,
  fun m ρ _ => Ref.frame m ρ, fun m ρ _ => Ref.frame m ρ, trivial, algebraic⟩

end Cert.Proof

end
